-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_KernelIdeal [hPre_nonnegative_KernelIdeal : Cert.Pre_nonnegative_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_ReferenceIdeal [hPre_nonnegative_ReferenceIdeal : Cert.Pre_nonnegative_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_nonnegative_KernelIdeal [hKernelIdeal : Cert.KernelIdeal.Facts] [hPre_nonnegative_KernelIdeal : Cert.Pre_nonnegative_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_nonnegative_ReferenceIdeal [hReferenceIdeal : Cert.ReferenceIdeal.Facts] [hPre_nonnegative_ReferenceIdeal : Cert.Pre_nonnegative_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_nonnegative_KernelIdeal [hKernelIdeal : Cert.KernelIdeal.Facts] [hReferenceIdeal : Cert.ReferenceIdeal.Facts] [hPre_nonnegative_KernelIdeal : Cert.Pre_nonnegative_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_nonnegative_KernelIdeal : Cert.Pre_nonnegative_KernelIdeal.Facts) (hPre_nonnegative_ReferenceIdeal : Cert.Pre_nonnegative_ReferenceIdeal.Facts),
    quiescent_Kernel (hKernel := hKernel)
    ∧ quiescent_KernelIdeal (hKernelIdeal := hKernelIdeal)
    ∧ quiescent_KernelIdeal_pre_nonnegative_KernelIdeal (hKernelIdeal := hKernelIdeal) (hPre_nonnegative_KernelIdeal := hPre_nonnegative_KernelIdeal)
    ∧ quiescent_ReferenceIdeal (hReferenceIdeal := hReferenceIdeal)
    ∧ quiescent_ReferenceIdeal_pre_nonnegative_ReferenceIdeal (hReferenceIdeal := hReferenceIdeal) (hPre_nonnegative_ReferenceIdeal := hPre_nonnegative_ReferenceIdeal)
    ∧ preserves_Kernel_KernelIdeal
    ∧ algebraic_KernelIdeal_ReferenceIdeal_pre_nonnegative_KernelIdeal (hKernelIdeal := hKernelIdeal) (hReferenceIdeal := hReferenceIdeal) (hPre_nonnegative_KernelIdeal := hPre_nonnegative_KernelIdeal)
-- ==== Pre_nonnegative_KernelIdeal.lean ====
abbrev S512x512 : Shape := ⟨2, ![512, 512]⟩
abbrev S_ : Shape := ⟨0, ![]⟩

class Facts : Prop where
  bcast_S_S512x512 : S_.BroadcastsInDim S512x512 (![] : Fin 0 → Fin S512x512.rank)

variable [Facts]

def fn {F : FTy → Type} [FloatOps F] (main_arg0 : FVec F S512x512 .f32) : IVec S512x512 1 :=
  let main_cst : FVec F S_ .f32 := constant S_ .f32 0x00000000#32
  let main_v0 : FVec F S512x512 .f32 := broadcastInDim S512x512 ![] bcast_S_S512x512 main_cst
  let main_v1 : IVec S512x512 1 := cmpf .oge main_arg0 main_v0
  main_v1
-- ==== Pre_nonnegative_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : FVec F S2048x512 .f32) : IVec S2048x512 1 :=
  let main_cst : FVec F S_ .f32 := constant S_ .f32 0x00000000#32
  let main_v0 : FVec F S2048x512 .f32 := broadcastInDim S2048x512 ![] bcast_S_S2048x512 main_cst
  let main_v1 : IVec S2048x512 1 := cmpf .oge main_arg0 main_v0
  main_v1
-- ==== Kernel.lean ====
abbrev S512x512 : Shape := ⟨2, ![512, 512]⟩
abbrev S3x1x512 : Shape := ⟨3, ![3, 1, 512]⟩
abbrev S1x512 : Shape := ⟨2, ![1, 512]⟩
abbrev S4 : Shape := ⟨1, ![4]⟩
abbrev S_ : Shape := ⟨0, ![]⟩
abbrev S256x512 : Shape := ⟨2, ![256, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1 : Shape := ⟨1, ![1]⟩
abbrev S1x1x512 : Shape := ⟨3, ![1, 1, 512]⟩

abbrev nBuf : Space → Nat
  | .hbm => 2
  | .vmem => 4
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S3x1x512, .f32⟩
  | .local _ .vmem, ⟨3, _⟩ => ⟨S1x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v8 : BitVec 1 := Scalar.cmpi .ne v2 c0_i32
  let v9 : BitVec 32 := Scalar.extui v8
  let c0_i32_2 : BitVec 32 := 0#32
  let v10 : BitVec 1 := Scalar.cmpi .ne v9 c0_i32_2
  v10

def k0_dev1 : Nat :=
  let c0_i32_43 : BitVec 32 := 0#32
  let c0_i32_41 : BitVec 32 := 0#32
  let c1_i32_42 : BitVec 32 := 1#32
  let v100 : BitVec 32 := Scalar.muli c0_i32_41 c1_i32_42
  let v101 : BitVec 32 := Scalar.addi c0_i32_43 v100
  v101.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v11 : BitVec 1 := Scalar.cmpi .ne v2 c1_i32_3
  let v12 : BitVec 32 := Scalar.extui v11
  let c0_i32_4 : BitVec 32 := 0#32
  let v13 : BitVec 1 := Scalar.cmpi .ne v12 c0_i32_4
  v13

def k0_dev2 : Nat :=
  let c0_i32_43 : BitVec 32 := 0#32
  let c1_i32_41 : BitVec 32 := 1#32
  let c1_i32_42 : BitVec 32 := 1#32
  let v100 : BitVec 32 := Scalar.muli c1_i32_41 c1_i32_42
  let v101 : BitVec 32 := Scalar.addi c0_i32_43 v100
  v101.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v14 : BitVec 1 := Scalar.cmpi .ne v2 c2_i32
  let v15 : BitVec 32 := Scalar.extui v14
  let c0_i32_5 : BitVec 32 := 0#32
  let v16 : BitVec 1 := Scalar.cmpi .ne v15 c0_i32_5
  v16

def k0_dev3 : Nat :=
  let c0_i32_43 : BitVec 32 := 0#32
  let c2_i32_41 : BitVec 32 := 2#32
  let c1_i32_42 : BitVec 32 := 1#32
  let v100 : BitVec 32 := Scalar.muli c2_i32_41 c1_i32_42
  let v101 : BitVec 32 := Scalar.addi c0_i32_43 v100
  v101.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v17 : BitVec 1 := Scalar.cmpi .ne v2 c3_i32
  let v18 : BitVec 32 := Scalar.extui v17
  let c0_i32_6 : BitVec 32 := 0#32
  let v19 : BitVec 1 := Scalar.cmpi .ne v18 c0_i32_6
  v19

def k0_dev4 : Nat :=
  let c0_i32_43 : BitVec 32 := 0#32
  let c3_i32_41 : BitVec 32 := 3#32
  let c1_i32_42 : BitVec 32 := 1#32
  let v100 : BitVec 32 := Scalar.muli c3_i32_41 c1_i32_42
  let v101 : BitVec 32 := Scalar.addi c0_i32_43 v100
  v101.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_12 : BitVec 32 := 0#32
  let v53 : BitVec 1 := Scalar.cmpi .eq v2 c0_i32_12
  let v54 : BitVec 32 := Scalar.extui v53
  let c0_i32_13 : BitVec 32 := 0#32
  let v55 : BitVec 1 := Scalar.cmpi .ne v54 c0_i32_13
  v55

def k0_dev5 : Nat :=
  let c0_i32_45 : BitVec 32 := 0#32
  let c1_i32_43 : BitVec 32 := 1#32
  let c1_i32_44 : BitVec 32 := 1#32
  let v100 : BitVec 32 := Scalar.muli c1_i32_43 c1_i32_44
  let v101 : BitVec 32 := Scalar.addi c0_i32_45 v100
  v101.toNat
def k0_dev6 : Nat :=
  let c0_i32_53 : BitVec 32 := 0#32
  let c2_i32_51 : BitVec 32 := 2#32
  let c1_i32_52 : BitVec 32 := 1#32
  let v108 : BitVec 32 := Scalar.muli c2_i32_51 c1_i32_52
  let v109 : BitVec 32 := Scalar.addi c0_i32_53 v108
  v109.toNat
def k0_dev7 : Nat :=
  let c0_i32_61 : BitVec 32 := 0#32
  let c3_i32_59 : BitVec 32 := 3#32
  let c1_i32_60 : BitVec 32 := 1#32
  let v116 : BitVec 32 := Scalar.muli c3_i32_59 c1_i32_60
  let v117 : BitVec 32 := Scalar.addi c0_i32_61 v116
  v117.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v56 : BitVec 1 := Scalar.cmpi .eq v2 c1_i32_14
  let v57 : BitVec 32 := Scalar.extui v56
  let c0_i32_15 : BitVec 32 := 0#32
  let v58 : BitVec 1 := Scalar.cmpi .ne v57 c0_i32_15
  v58

def k0_dev8 : Nat :=
  let c0_i32_45 : BitVec 32 := 0#32
  let c2_i32_43 : BitVec 32 := 2#32
  let c1_i32_44 : BitVec 32 := 1#32
  let v100 : BitVec 32 := Scalar.muli c2_i32_43 c1_i32_44
  let v101 : BitVec 32 := Scalar.addi c0_i32_45 v100
  v101.toNat
def k0_dev9 : Nat :=
  let c0_i32_53 : BitVec 32 := 0#32
  let c3_i32_51 : BitVec 32 := 3#32
  let c1_i32_52 : BitVec 32 := 1#32
  let v108 : BitVec 32 := Scalar.muli c3_i32_51 c1_i32_52
  let v109 : BitVec 32 := Scalar.addi c0_i32_53 v108
  v109.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_16 : BitVec 32 := 2#32
  let v59 : BitVec 1 := Scalar.cmpi .eq v2 c2_i32_16
  let v60 : BitVec 32 := Scalar.extui v59
  let c0_i32_17 : BitVec 32 := 0#32
  let v61 : BitVec 1 := Scalar.cmpi .ne v60 c0_i32_17
  v61

def k0_dev10 : Nat :=
  let c0_i32_45 : BitVec 32 := 0#32
  let c3_i32_43 : BitVec 32 := 3#32
  let c1_i32_44 : BitVec 32 := 1#32
  let v100 : BitVec 32 := Scalar.muli c3_i32_43 c1_i32_44
  let v101 : BitVec 32 := Scalar.addi c0_i32_45 v100
  v101.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩
abbrev S_ : Shape := ⟨0, ![]⟩
abbrev S512 : Shape := ⟨1, ![512]⟩
abbrev S1x512 : Shape := ⟨2, ![1, 512]⟩

abbrev nBuf : Space → Nat
  | .hbm => 21
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S2048x512, .f32⟩
  | .hbm, ⟨5, _⟩ => ⟨S_, .i32⟩
  | .hbm, ⟨6, _⟩ => ⟨S2048x512, .f32⟩
  | .hbm, ⟨7, _⟩ => ⟨S_, .i32⟩
  | .hbm, ⟨8, _⟩ => ⟨S512, .f32⟩
  | .hbm, ⟨9, _⟩ => ⟨S2048x512, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x512, .f32⟩
  | .hbm, ⟨14, _⟩ => ⟨S512, .f32⟩
  | .hbm, ⟨15, _⟩ => ⟨S512, .f32⟩
  | .hbm, ⟨16, _⟩ => ⟨S1x512, .f32⟩
  | .hbm, ⟨17, _⟩ => ⟨S_, .i32⟩
  | .hbm, ⟨18, _⟩ => ⟨S2048x512, .f32⟩
  | .hbm, ⟨19, _⟩ => ⟨S_, .i32⟩
  | .hbm, ⟨20, _⟩ => ⟨S_, .i32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 2048#32, 1#32⟩
-- ==== Proof.Protocol.lean ====
/-
The hand-off between the four devices, as a protocol of one round per semaphore.

Device `c` of four holds 512 rows. It sums the logarithms of its rows to one row, its TOTAL, and every later device needs it. A device's
landing buffer has three slots, slot `s` for the total of device `s`; device `s` copies its total into slot `s` of every device after it.
Before any copy all four devices meet at the barrier semaphore: each signals the other three and waits for three units. The signal of `d` to
an earlier device `c` hands `c` the slot that `c` will fill on `d`.

This file names the buffers and semaphores, the contents the buffers end with, the schedule (who pays what into which semaphore, and what
the payment carries), what a device owes when the kernel starts, and the order in which semaphores may be waited on.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.Tactic

@[expose] public section

noncomputable section

namespace Cert.Prefix

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: the staging pipeline's rounds beside the hand-off's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: memory `m`, every counter at zero. -/
def s₀ : MemSt nD τ sig (Elt F) := ⟨m, fun _ => 0, ρ⟩

/-! ## Buffers and semaphores -/

abbrev xM : Memref sig .tc .vmem S512x512 .f32 := Memref.whole cc0_stg0_0
abbrev oM : Memref sig .tc .vmem S512x512 .f32 := Memref.whole cc0_stg1_0
abbrev commM : Memref sig .tc .vmem S3x1x512 .f32 := Memref.whole cc0_scratch0
abbrev totM : Memref sig .tc .vmem S1x512 .f32 := Memref.whole cc0_scratch1

theorem slot_inb (s : Fin 3) : ∀ a, (![s.val, 0, 0] : Fin 3 → ℕ) a + S1x1x512.size a ≤ S3x1x512.size a := by
  revert s; decide

/-- Slot `s` of the landing buffer as a rectangle, and as the one-row buffer the copies name. -/
abbrev slotR (s : Fin 3) : Rect S3x1x512 := Rect.unit (s := S3x1x512) ![s.val, 0, 0] S1x1x512.size (slot_inb s)
abbrev slotM (s : Fin 3) : Memref sig .tc .vmem S1x512 .f32 :=
  (commM.slice (slotR s) (fun _ => rfl)).squeeze S1x512 squeezes_S1x1x512_S1x512

/-- The slot device `s` fills (device 3 fills none). -/
def seat (s : Dev nD) : Fin 3 := ⟨min s.val 2, by omega⟩

/-- The barrier semaphore; the semaphore of the copy to device `r`, on its sender; the semaphore of the copy from device `s`, on its receiver. -/
abbrev barS : Sem sig := (SemArray.scalar (sig.barrier 0 rfl) : Sems sig S_).sem
def sendS (r : Dev nD) : DmaSem sig := ⟨r.val + 2, by revert r; decide⟩
def recvS (s : Dev nD) : DmaSem sig := ⟨s.val + 6, by revert s; decide⟩

abbrev barCell (c : Dev nD) : GSem nD τ sig := ((c : Thread nD τ), .reg barS)
abbrev sendCell (c r : Dev nD) : GSem nD τ sig := ((c : Thread nD τ), .dma (sendS r))
abbrev recvCell (c s : Dev nD) : GSem nD τ sig := ((c : Thread nD τ), .dma (recvS s))

theorem sendS_inj {r r' : Dev nD} : sendS r = sendS r' ↔ r = r' := by revert r r'; decide
theorem recvS_inj {r r' : Dev nD} : recvS r = recvS r' ↔ r = r' := by revert r r'; decide
theorem send_ne_recv (r s : Dev nD) : sendS r ≠ recvS s := by revert r s; decide

/-- The bytes' worth of one copy, as the semaphores count it. -/
abbrev N : ℕ := (slotM 0).view.dmaCredit
theorem N_pos : 0 < N := View.dmaCredit_pos _ (by decide)

/-! ## Contents -/

/-- Device `c`'s block of `x` in its staging buffer. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s total: one row. -/
def tot (c : Dev nD) : (cc0_scratch1 : Ref sig .tc).ty.Contents (Elt F) := k0_pay5 (k0_pay4 (xstg m ρ c))

/-- What device `c`'s landing buffer ends with: the totals of the devices before it, zeros in the other slots. -/
def commAt (c : Dev nD) : (cc0_scratch0 : Ref sig .tc).ty.Contents (Elt F) := fun i =>
  if (i 0).val < c.val then tot m ρ ⟨(i 0).val, lt_trans (i 0).isLt (by decide)⟩ (ix2 (i 1) (i 2)) else k0_pay2 (F := F) i

/-- Slot `s` of device `c` at contents `f`. -/
def slotPts (c : Dev nD) (s : Fin 3) (f : Buf (Elt F) ((slotM s).view.loc (c : Thread nD τ))) : sProp 𝕄 :=
  (slotM s).view.loc (c : Thread nD τ) ↦[(slotM s).view.set]{fullShare} f

/-- A share `q` of device `c`'s total row. -/
def totPts (c : Dev nD) (q : PosShare TreeShare) : sProp 𝕄 :=
  (totM : Memref sig .tc .vmem S1x512 .f32).view.loc (c : Thread nD τ) ↦[(totM : Memref sig .tc .vmem S1x512 .f32).view.set]{q} tot m ρ c

instance slotPts_storable (c : Dev nD) (s : Fin 3) (f) : BI.Storable (upEmb : UEmb _ 𝕄) (slotPts (F := F) c s f) := by
  unfold slotPts; infer_instance
instance totPts_storable (c : Dev nD) (q) : BI.Storable (upEmb : UEmb _ 𝕄) (totPts m ρ c q) := by unfold totPts; infer_instance

/-- The share of the total row that the copy to device `r` holds: copies go out to devices 1, 2 and 3. -/
def lent (r : Dev nD) : PosShare TreeShare :=
  if r = 1 then fullShare.left else if r = 2 then fullShare.right.left else fullShare.right.right

theorem row_cases (x : S1x512.Idx) : ∃ (a : Fin 1) (b : Fin 512), x = ix2 a b :=
  ⟨x 0, x 1, funext fun k => by fin_cases k <;> rfl⟩

theorem emb_slot (s : Fin 3) (a : Fin 1) (b : Fin 512) : (slotM s).view.emb (ix2 a b : S1x512.Idx) = (ix3 s a b : S3x1x512.Idx) := by
  refine (congrArg (slotR s).emb (reshapeEquiv_ix2_1ab _ a b)).trans (funext fun k => Fin.ext ?_)
  fin_cases k
  · show s.val + 1 * 0 = s.val; omega
  · show 0 + 1 * a.val = a.val; omega
  · show 0 + 1 * b.val = b.val; omega

/-- A slot before the device's own number holds the total of the device of that number; a slot from there on holds zeros. -/
theorem commAt_before (c s : Dev nD) (k : Fin 3) (hk : k.val = s.val) (h : s.val < c.val) (a : Fin 1) (b : Fin 512) :
    commAt m ρ c (ix3 k a b : S3x1x512.Idx) = tot m ρ s (ix2 a b) := by
  have hs : (⟨k.val, lt_trans k.isLt (by decide)⟩ : Dev nD) = s := Fin.ext hk
  subst hs
  exact if_pos h
theorem commAt_after (c : Dev nD) (k : Fin 3) (h : ¬ k.val < c.val) (a : Fin 1) (b : Fin 512) :
    commAt m ρ c (ix3 k a b : S3x1x512.Idx) = k0_pay2 (F := F) (ix3 k a b) := if_neg h

theorem seat_val {c s : Dev nD} (h : s.val < c.val) : (seat s).val = s.val := by
  have : c.val < 4 := c.isLt
  show min s.val 2 = s.val
  omega

/-- A copy of device `s`'s total that lands in its slot on a later device `c` makes that slot what `commAt` says. -/
theorem landed (c s : Dev nD) (h : s.val < c.val) (fd : Buf (Elt F) ((slotM (seat s)).view.loc (c : Thread nD τ))) :
    ((slotM (seat s)).view.loc (c : Thread nD τ) ↦[(slotM (seat s)).view.set]{fullShare}
        ((slotM (seat s)).view.write (Elt F) fd ((totM : Memref sig .tc .vmem S1x512 .f32).view.read (Elt F) (tot m ρ s)) Finset.univ) : sProp 𝕄)
      = slotPts c (seat s) (commAt m ρ c) := by
  unfold slotPts
  refine pointsTo_congr fun i hi => ?_
  obtain ⟨x, -, rfl⟩ := Finset.mem_map.mp hi
  rw [View.write_emb_of_mem _ _ (Finset.mem_univ _)]
  obtain ⟨a, b, rfl⟩ := row_cases x
  rw [emb_slot]
  exact (commAt_before m ρ c s (seat s) (seat_val h) h a b).symm

/-! ## The schedule -/

/-- What device `d`'s signal to device `c` hands over: if `c` is before `d`, the slot `c` fills on `d` and that `d` stands at round 0 of
    that slot's semaphore; otherwise nothing. -/
def barPay (c d : Dev nD) : sProp 𝕄 :=
  if c.val < d.val then iprop((∃ f, slotPts d (seat c) f) ∗ reached ER (recvCell d c) 0) else iprop(emp)

instance barPay_storable (c d : Dev nD) : BI.Storable (upEmb : UEmb _ 𝕄) (barPay (F := F) c d) := by
  unfold barPay; split <;> infer_instance

/-- The devices that pay into semaphore `sm` of device `c`: the other three into its barrier semaphore, itself into the semaphore of its
    copy to a later device, the sender into the semaphore of a copy from an earlier device. -/
def payers (c : Dev nD) (sm : SemLoc sig) : Finset (Dev nD) :=
  Finset.univ.filter fun d =>
    (sm = .reg barS ∧ d ≠ c) ∨ (∃ r : Dev nD, sm = .dma (sendS r) ∧ c.val < r.val ∧ d = c) ∨ (sm = .dma (recvS d) ∧ d.val < c.val)

/-- The payload of `d`'s payment into `sm` of device `c`. -/
def carries (c : Dev nD) (sm : SemLoc sig) (d : Dev nD) : sProp 𝕄 :=
  if sm = .reg barS then barPay c d
  else if sm = .dma (recvS d) then slotPts c (seat d) (commAt m ρ c)
  else if sm = .dma (sendS 1) then totPts m ρ c (lent 1)
  else if sm = .dma (sendS 2) then totPts m ρ c (lent 2)
  else totPts m ρ c (lent 3)

instance carries_storable (c : Dev nD) (sm : SemLoc sig) (d : Dev nD) : BI.Storable (upEmb : UEmb _ 𝕄) (carries m ρ c sm d) := by
  unfold carries; (repeat' split) <;> infer_instance

/-- The hand-off: one round. A barrier payment is one unit, a copy's payment its bytes' worth. -/
def plan : Rounds.Schedule (GSem nD τ sig) (Dev nD) 𝕄 where
  duties g r := if r = 0 ∧ g.1.2 = .tc then payers g.1.1 g.2 else ∅
  unitless _ := False
  amount g _ _ := if g.2 = .reg barS then 1 else N
  payload g _ d := carries m ρ g.1.1 g.2 d
  amount_pos g _ _ _ := by
    by_cases h : g.2 = .reg barS
    · rw [if_pos h]; exact Nat.one_pos
    · rw [if_neg h]; exact N_pos

instance plan_payload_storable (g : GSem nD τ sig) (r : ℕ) (d : Dev nD) :
    BI.Storable (upEmb : UEmb _ 𝕄) ((plan m ρ).payload g r d) := carries_storable m ρ g.1.1 g.2 d

section Sched
variable (c d : Dev nD)

theorem duties_zero (sm : SemLoc sig) : (plan m ρ).duties ((c : Thread nD τ), sm) 0 = payers c sm := by
  dsimp only [plan]; exact if_pos ⟨rfl, rfl⟩
theorem duties_later (g : GSem nD τ sig) : ∀ r, 1 ≤ r → (plan m ρ).duties g r = ∅ := fun r hr => by
  dsimp only [plan]; exact if_neg fun h => by omega

theorem payers_bar : payers c (.reg barS) = Finset.univ.erase c := by
  ext e; simp [payers]
theorem payers_send : payers c (.dma (sendS d)) = if c.val < d.val then {c} else ∅ := by
  ext e
  simp only [payers, Finset.mem_filter, Finset.mem_univ, true_and, SemLoc.dma.injEq, sendS_inj, send_ne_recv, false_and, or_false, reduceCtorEq, false_or]
  split <;> rename_i h
  · simp only [Finset.mem_singleton]; exact ⟨fun ⟨_, _, _, h'⟩ => h', fun h' => ⟨d, rfl, h, h'⟩⟩
  · exact iff_of_false (fun ⟨r, h1, h2, _⟩ => h (h1 ▸ h2)) (Finset.notMem_empty _)
theorem payers_recv : payers c (.dma (recvS d)) = if d.val < c.val then {d} else ∅ := by
  ext e
  simp only [payers, Finset.mem_filter, Finset.mem_univ, true_and, SemLoc.dma.injEq, recvS_inj, (send_ne_recv _ _).symm, false_and, exists_false,
    reduceCtorEq, false_or]
  split <;> rename_i h
  · simp only [Finset.mem_singleton]; exact ⟨fun h' => h'.1.symm, fun h' => ⟨h'.symm, h' ▸ h⟩⟩
  · exact iff_of_false (fun ⟨h1, h2⟩ => h (h1 ▸ h2)) (Finset.notMem_empty _)

theorem amount_bar : (plan m ρ).amount (barCell c) 0 d = 1 := by dsimp only [plan]; exact if_pos rfl
theorem expect_bar : (plan m ρ).expect (barCell c) 0 = 3 := by
  unfold Schedule.expect Schedule.amountOf
  rw [duties_zero, payers_bar, Finset.sum_congr rfl fun d _ => amount_bar m ρ c d, Finset.sum_const,
    Finset.card_erase_of_mem (Finset.mem_univ _), Finset.card_univ, Fintype.card_fin, smul_eq_mul]; rfl
theorem amount_dma (g : GSem nD τ sig) (q : DmaSem sig) (h : g.2 = .dma q) (r : ℕ) (e : Dev nD) : (plan m ρ).amount g r e = N := by
  dsimp only [plan]; exact if_neg (by rw [h]; exact fun h' => by cases h')
theorem expect_send (h : c.val < d.val) : (plan m ρ).expect (sendCell c d) 0 = N := by
  unfold Schedule.expect Schedule.amountOf
  rw [duties_zero, payers_send, if_pos h, Finset.sum_singleton, amount_dma m ρ _ _ rfl]
theorem expect_recv (h : d.val < c.val) : (plan m ρ).expect (recvCell c d) 0 = N := by
  unfold Schedule.expect Schedule.amountOf
  rw [duties_zero, payers_recv, if_pos h, Finset.sum_singleton, amount_dma m ρ _ _ rfl]

theorem payload_bar : (plan m ρ).payload (barCell c) 0 d = barPay c d := by
  dsimp only [plan, carries]; exact if_pos rfl
theorem payload_recv : (plan m ρ).payload (recvCell c d) 0 d = slotPts c (seat d) (commAt m ρ c) := by
  show carries m ρ c (.dma (recvS d)) d = _
  unfold carries; rw [if_neg (fun h => by cases h), if_pos rfl]
theorem payload_send (h : c.val < d.val) : (plan m ρ).payload (sendCell c d) 0 c = totPts m ρ c (lent d) := by
  show carries m ρ c (.dma (sendS d)) c = _
  unfold carries
  rw [if_neg (fun h => by cases h), if_neg (fun h => send_ne_recv d c (SemLoc.dma.inj h))]
  simp only [SemLoc.dma.injEq, sendS_inj]
  have h3 : d = 1 ∨ d = 2 ∨ d = 3 := by revert c d; decide
  rcases h3 with rfl | rfl | rfl <;> rfl

theorem rest_send (h : c.val < d.val) :
    bigSep ((plan m ρ).duties (sendCell c d) 0 \ ∅) (fun e => (plan m ρ).payload (sendCell c d) 0 e) = totPts m ρ c (lent d) := by
  rw [Finset.sdiff_empty, duties_zero, payers_send, if_pos h, bigSep_singleton, payload_send m ρ c d h]
theorem rest_recv (h : d.val < c.val) :
    bigSep ((plan m ρ).duties (recvCell c d) 0 \ ∅) (fun e => (plan m ρ).payload (recvCell c d) 0 e) = slotPts c (seat d) (commAt m ρ c) := by
  rw [Finset.sdiff_empty, duties_zero, payers_recv, if_pos h, bigSep_singleton, payload_recv]

theorem bigSep_dev (Φ : Dev nD → sProp 𝕄) : bigSep Finset.univ Φ = iprop(Φ 0 ∗ Φ 1 ∗ Φ 2 ∗ Φ 3) :=
  bigSep_univ_eq_bigSepL [0, 1, 2, 3] (by decide) (by decide) Φ

/-- What the barrier wait of device `c` brings: from each device after it, the slot `c` fills there. -/
theorem rest_bar :
    bigSep ((plan m ρ).duties (barCell c) 0 \ ∅) (fun e => (plan m ρ).payload (barCell c) 0 e)
      ⊢ iprop(barPay c 0 ∗ barPay c 1 ∗ barPay c 2 ∗ barPay c 3) := by
  rw [Finset.sdiff_empty, duties_zero, payers_bar, bigSep_congr fun e _ => payload_bar m ρ c e,
    ← bigSep_dev (fun e => (barPay c e : sProp 𝕄)), bigSep_univ_at _ c]
  iintro H
  isplitr
  · unfold barPay; rw [if_neg (Nat.lt_irrefl _)]; iempintro
  · iexact H

end Sched

/-! ## What a device owes at the start, and the order of the waits -/

/-- A unit to device `d`'s barrier semaphore; the copy to device `r`. -/
def oweBar (c d : Dev nD) : CellTallies nD τ sig Unit := if d ≠ c then tallyAt (barCell d) () 1 else 0
def oweCopy (c r : Dev nD) : CellTallies nD τ sig Unit := if c.val < r.val then tallyAt (recvCell r c) () N else 0

/-- The copies owed, and with the four signals before them everything owed, each sum in the order the program pays from its end. -/
def copiesOwed (c : Dev nD) : CellTallies nD τ sig Unit := 0 + oweCopy c 3 + oweCopy c 2 + oweCopy c 1
def O₀ (c : Dev nD) : CellTallies nD τ sig Unit := copiesOwed c + oweBar c 3 + oweBar c 2 + oweBar c 1 + oweBar c 0

def L (g : GSem nD τ sig) : Finset Unit := if g.1.2 = .tc then {()} else ∅
/-- Barrier semaphores at 1, the semaphores of incoming copies at 2, every other at 0. -/
def lv (g : GSem nD τ sig) (_ : Unit) : ℕ := if g.2 = .reg barS then 1 else if ∃ s, g.2 = .dma (recvS s) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c s : Dev nD) : lv (recvCell c s) () = 2 := by
  unfold lv; rw [if_neg (fun h => by cases h), if_pos ⟨s, rfl⟩]

theorem oweBar_pos {c d : Dev nD} {g : GSem nD τ sig} {u : Unit} (h : oweBar c d g u ≠ 0) : g = barCell d := by
  unfold oweBar at h
  split at h
  · rw [tallyAt_apply] at h; by_contra hn; exact h (if_neg fun h' => hn h'.1)
  · exact absurd rfl h
theorem oweCopy_pos {c r : Dev nD} {g : GSem nD τ sig} {u : Unit} (h : oweCopy c r g u ≠ 0) : g = recvCell r c := by
  unfold oweCopy at h
  split at h
  · rw [tallyAt_apply] at h; by_contra hn; exact h (if_neg fun h' => hn h'.1)
  · exact absurd rfl h

theorem copiesOwed_pos {c : Dev nD} {g : GSem nD τ sig} {u : Unit} (h : 0 < copiesOwed c g u) : ∃ r, g = recvCell r c := by
  by_contra hn
  have hz : ∀ r, oweCopy c r g u = 0 := fun r => by by_contra h'; exact hn ⟨r, oweCopy_pos h'⟩
  unfold copiesOwed at h
  simp only [Pi.add_apply, Finsupp.add_apply, hz, Pi.zero_apply, Finsupp.zero_apply, Nat.add_zero] at h
  exact Nat.lt_irrefl 0 h
theorem O₀_pos {c : Dev nD} {g : GSem nD τ sig} {u : Unit} (h : 0 < O₀ c g u) : (∃ d, g = barCell d) ∨ ∃ r, g = recvCell r c := by
  by_contra hn
  have hz : ∀ r, oweBar c r g u = 0 := fun r => by by_contra h'; exact hn (.inl ⟨r, oweBar_pos h'⟩)
  unfold O₀ at h
  simp only [Pi.add_apply, Finsupp.add_apply, hz, Nat.add_zero] at h
  exact hn (.inr (copiesOwed_pos h))

/-- The staging semaphores may be waited on with everything owed, or nothing. -/
theorem mayWait_stage (c : Dev nD) (q : DmaSem sig) (hq : ∀ s, q ≠ recvS s) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]; dsimp only [lv]
        rw [if_neg (fun h => by cases h), if_neg (fun ⟨s, h⟩ => hq s (SemLoc.dma.inj h))])
      (fun g u hg => by
        rcases O₀_pos hg with ⟨d, rfl⟩ | ⟨d, rfl⟩
        · rw [show lv (barCell d) u = 1 from lv_bar d]; decide
        · rw [show lv (recvCell d c) u = 2 from lv_recv d c]; decide)
  · rw [MayWait_zero]; iintro -; iempintro

/-- The barrier semaphore may be waited on with only copies owed. -/
theorem mayWait_bar (c : Dev nD) : (levAts L lv : sProp 𝕄) ⊢ MayWait (c : Thread nD τ) (.reg barS) () (copiesOwed c) :=
  MayOwe.of_cut (L := L) (lev := lv) 1 (fun p hp => by rw [Finset.mem_singleton.mp hp, L_tc]; exact Finset.mem_singleton_self _)
    (fun g u hg => by obtain ⟨r, rfl⟩ := copiesOwed_pos hg; exact Finset.mem_singleton_self _)
    (fun p hp => by rw [Finset.mem_singleton.mp hp]; exact Nat.le_of_eq (lv_bar c))
    (fun g u hg => by
      obtain ⟨r, rfl⟩ := copiesOwed_pos hg
      rw [show lv (recvCell r c) u = 2 from lv_recv r c]; decide)

end Cert.Prefix

end
-- ==== Proof.Steps.lean ====
/-
One rule per kind of step of the kernel's body: a signal to a peer, the deal of the landing slots, a copy to a later device, the wait for a
copy from an earlier device, the wait for one's own copy to leave, and the closing of a semaphore. Each is stated for any device and any peer,
so that the body applies it once per place of the program.
-/
module

public import proofs.«01_k».proof.Proof.Protocol

@[expose] public section

noncomputable section

namespace Cert.Prefix

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The hand-off's semaphores, numbered -/

/-- The nine semaphores of a device: the barrier's, those of its copies to devices 0 to 3, those of the copies from devices 0 to 3. -/
def csem : Fin 9 → SemLoc sig
  | ⟨0, _⟩ => .reg barS
  | ⟨k + 1, h⟩ => .dma ⟨k + 2, Nat.succ_lt_succ h⟩
abbrev kcell (ck : Dev nD × Fin 9) : GSem nD τ sig := ((ck.1 : Thread nD τ), csem ck.2)
def kS (r : Dev nD) : Fin 9 := ⟨r.val + 1, by revert r; decide⟩
def kV (s : Dev nD) : Fin 9 := ⟨s.val + 5, by revert s; decide⟩

/-- What every device knows: each semaphore's invariant, under the name the launch gave it, and that each stands at round 0. -/
def records (K : Dev nD × Fin 9 → ℕ) : sProp 𝕄 :=
  iprop((bigSep Finset.univ fun ck : Dev nD × Fin 9 => cellInv ER (plan m ρ) (K ck) (kcell ck))
    ∗ bigSep Finset.univ fun ck : Dev nD × Fin 9 => reached ER (kcell ck) 0)

instance records_persistent (K : Dev nD × Fin 9 → ℕ) : BI.Persistent (records m ρ K) := by unfold records; infer_instance

variable (K : Dev nD × Fin 9 → ℕ)

theorem inv_at (ck : Dev nD × Fin 9) : records m ρ K ⊢ cellInv ER (plan m ρ) (K ck) (kcell ck) := by
  unfold records
  iintro ⟨H, -⟩
  iapply (show (bigSep Finset.univ fun ck : Dev nD × Fin 9 => (cellInv ER (plan m ρ) (K ck) (kcell ck) : sProp 𝕄)) ⊢ cellInv ER (plan m ρ) (K ck) (kcell ck)
    from bigSep_elim (Finset.mem_univ ck))
  iexact H
theorem reached_at (ck : Dev nD × Fin 9) : records m ρ K ⊢ reached ER (kcell ck) 0 := by
  unfold records
  iintro ⟨-, H⟩
  iapply (show (bigSep Finset.univ fun ck : Dev nD × Fin 9 => (reached ER (kcell ck) 0 : sProp 𝕄)) ⊢ reached ER (kcell ck) 0
    from bigSep_elim (Finset.mem_univ ck))
  iexact H

theorem inv_bar (c : Dev nD) : records m ρ K ⊢ cellInv ER (plan m ρ) (K (c, 0)) (barCell c) := inv_at m ρ K (c, 0)
theorem inv_send (c r : Dev nD) : records m ρ K ⊢ cellInv ER (plan m ρ) (K (c, kS r)) (sendCell c r) := inv_at m ρ K (c, kS r)
theorem inv_recv (c s : Dev nD) : records m ρ K ⊢ cellInv ER (plan m ρ) (K (c, kV s)) (recvCell c s) := inv_at m ρ K (c, kV s)
theorem reached_bar (c : Dev nD) : records m ρ K ⊢ reached ER (barCell c) 0 := reached_at m ρ K (c, 0)
theorem reached_send (c r : Dev nD) : records m ρ K ⊢ reached ER (sendCell c r) 0 := reached_at m ρ K (c, kS r)
theorem reached_recv (c s : Dev nD) : records m ρ K ⊢ reached ER (recvCell c s) 0 := reached_at m ρ K (c, kV s)

/-- Device `c` owes `O`, whatever it has waited for. -/
def owing (c : Dev nD) (O : CellTallies nD τ sig Unit) : sProp 𝕄 := iprop(∃ W : Waits sig Unit, owes (c : Thread nD τ) O W)

abbrev 𝒱₀ : Variants := Variants.none

/-- Weakest precondition of the body's program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-! ## Signals -/

/-- The signal to device `d`, which the program makes unless `d` is the device itself: it pays the unit owed, with what it hands over. -/
theorem signal_step (c d : Dev nD) (p : Prop) [Decidable p] (hp : p ↔ d ≠ c) (n : p → Dev nD) (hn : ∀ h, n h = d)
    (O : CellTallies nD τ sig Unit) (k : PUnit → Prog (TpuEff nD τ sig (Elt F) Λ₀ .tc) α) {Q : α → sProp 𝕄} :
    iprop(records m ρ K ∗ dutyTok ER (barCell d) 0 c ∗ barPay d c ∗ owing c (O + oweBar c d))
      ⊢ iprop((owing c O -∗ wpc c (k ⟨⟩) Q)
          -∗ wpc c (if h : p then .op (.semSignal ((n h : Dev nD) : Thread nD τ) barS (1#32 : BitVec 32).toInt) k else k ⟨⟩) Q) := by
  unfold owing
  iintro ⟨#HR, Htok, Hpay, ⟨%W, HO⟩⟩ Hk
  by_cases h : p
  · have hd := hp.mp h
    have hd₁ : c ∈ (plan m ρ).duties (barCell d) 0 := by
      rw [duties_zero, payers_bar]; exact Finset.mem_erase.mpr ⟨Ne.symm hd, Finset.mem_univ _⟩
    have hu : O + oweBar c d = O + tallyAt (barCell d) () 1 := by unfold oweBar; rw [if_pos hd]
    rw [dif_pos h, hn h, hu]
    have st := Rounds.wp_signal 𝒱₀ ER (plan m ρ) (c : Thread nD τ) none (dst := (d : Thread nD τ)) (κ := K (d, 0)) (r := 0) (d := c)
      (defs := defs₀ (F := F)) (Es := Set.univ) (Γ := []) (Q := Q) (k := k) (W := W) hd₁ (amount_bar m ρ d c) () O rfl
    iapply st $$ [HO Htok Hpay]
    · isplitr; · iapply (inv_bar m ρ K d); iexact HR
      isplitl [HO]; · iexact HO
      isplitl [Htok]; · iexact Htok
      isplitl [Hpay]; · rw [payload_bar]; iexact Hpay
      iapply (reached_bar m ρ K d); iexact HR
    iintro HO
    iapply Hk
    iexists W; iexact HO
  · rw [dif_neg h]
    iapply Hk
    iexists W
    rw [show O + oweBar c d = O by unfold oweBar; rw [if_neg (fun hd => h (hp.mpr hd)), add_zero]]
    iexact HO

/-! ## The landing slots -/

/-- A slot that stays with its device: one no earlier device fills. -/
def kept (c : Dev nD) (k : Fin 3) : sProp 𝕄 := if k.val < c.val then iprop(emp) else slotPts c k (commAt m ρ c)

theorem mem_slot (k : Fin 3) (i : S3x1x512.Idx) : i ∈ (slotM k).view.set ↔ (i 0).val = k.val := by
  constructor
  · intro hi
    obtain ⟨x, -, rfl⟩ := Finset.mem_map.mp hi
    obtain ⟨a, b, rfl⟩ := row_cases x
    rw [emb_slot]
  · intro h
    have hk : (i 0 : Fin 3) = k := Fin.ext h
    have hi : i = (slotM k).view.emb (ix2 (i 1) (i 2) : S1x512.Idx) := by
      refine Eq.trans ?_ (emb_slot k (i 1) (i 2)).symm
      subst hk
      exact funext fun a => by fin_cases a <;> rfl
    rw [hi]
    exact View.emb_mem_set _ _

/-- The elements of slot `k`. -/
def slotSet (k : Fin 3) : Finset S3x1x512.Idx := (slotM k).view.set
theorem slots_disjoint (k k' : Fin 3) (h : k ≠ k') : Disjoint (slotSet k) (slotSet k') :=
  Finset.disjoint_left.mpr fun i hi hi' => h (Fin.ext (((mem_slot k i).mp hi).symm.trans ((mem_slot k' i).mp hi')))
theorem slots_cover : Finset.univ.biUnion slotSet = Finset.univ :=
  Finset.eq_univ_of_forall fun i => Finset.mem_biUnion.mpr ⟨(i 0 : Fin 3), Finset.mem_univ _, (mem_slot _ i).mpr rfl⟩

/-- The landing buffer held whole is its three slots held one by one. -/
theorem slots_eq (c : Dev nD) (f : Buf (Elt F) ((c : Thread nD τ).loc cc0_scratch0)) :
    (((c : Thread nD τ).loc cc0_scratch0) ↦{fullShare} f : sProp 𝕄) = iprop(slotPts c 0 f ∗ slotPts c 1 f ∗ slotPts c 2 f) := by
  rw [Ring.pointsTo_blocks (ℓ := (c : Thread nD τ).loc cc0_scratch0) slotSet slots_disjoint slots_cover,
    bigSep_univ_eq_bigSepL [(0 : Fin 3), 1, 2] (by decide) (by decide)]
  rfl

/-- A slot holding zeros either goes to the earlier device that fills it or stays. -/
theorem deal_slot (c s : Dev nD) (k : Fin 3) (hk : k.val = s.val) (hs : seat s = k) :
    iprop(records m ρ K ∗ slotPts c k (k0_pay2 (F := F))) ⊢ iprop(barPay s c ∗ kept m ρ c k) := by
  subst hs
  unfold barPay kept
  by_cases h : s.val < c.val
  · rw [if_pos h, if_pos (by omega)]
    iintro ⟨#HR, Hs⟩
    isplitl
    · isplitl
      · iexists _; iexact Hs
      · iapply (reached_recv m ρ K c s); iexact HR
    · iempintro
  · rw [if_neg h, if_neg (by omega)]
    have hz : slotPts c (seat s) (k0_pay2 (F := F)) = (slotPts c (seat s) (commAt m ρ c) : sProp 𝕄) := by
      unfold slotPts
      refine pointsTo_congr fun i hi => ?_
      exact (if_neg (by have := (mem_slot (seat s) i).mp hi; omega)).symm
    rw [hz]
    iintro ⟨-, Hs⟩
    isplitr
    · iempintro
    · iexact Hs

/-- The landing buffer full of zeros, dealt out. -/
theorem deal_slots (c : Dev nD) :
    iprop(records m ρ K ∗ ((c : Thread nD τ).loc cc0_scratch0) ↦{fullShare} (k0_pay2 (F := F)))
      ⊢ iprop((barPay 0 c ∗ barPay 1 c ∗ barPay 2 c ∗ barPay 3 c) ∗ kept m ρ c 0 ∗ kept m ρ c 1 ∗ kept m ρ c 2) := by
  rw [slots_eq]
  iintro ⟨#HR, H0, H1, H2⟩
  ihave H0' := (deal_slot m ρ K c 0 0 rfl rfl) $$ [H0]
  · isplitr <;> iassumption
  ihave H1' := (deal_slot m ρ K c 1 1 rfl rfl) $$ [H1]
  · isplitr <;> iassumption
  ihave H2' := (deal_slot m ρ K c 2 2 rfl rfl) $$ [H2]
  · isplitr <;> iassumption
  icases H0' with ⟨A0, B0⟩
  icases H1' with ⟨A1, B1⟩
  icases H2' with ⟨A2, B2⟩
  isplitl [A0 A1 A2]
  · isplitl [A0]; · iexact A0
    isplitl [A1]; · iexact A1
    isplitl [A2]; · iexact A2
    unfold barPay
    rw [if_neg (show ¬ (3 : Dev nD).val < c.val by revert c; decide)]
    iempintro
  isplitl [B0]; · iexact B0
  isplitl [B1] <;> iassumption

/-! ## Copies to later devices -/

/-- What a copy from device `c` to device `r` needs, before it is made: a share of the total row, the slot it fills, the two payments' tokens. -/
def outgoing (c r : Dev nD) : sProp 𝕄 :=
  iprop(totPts m ρ c (lent r) ∗ barPay c r ∗ dutyTok ER (recvCell r c) 0 c ∗ dutyTok ER (sendCell c r) 0 c)
/-- What is left of it afterwards: the claim on the copy's departure, or the unused share where no copy goes. -/
def inflight (c r : Dev nD) : sProp 𝕄 := if c.val < r.val then cred (tallyAt (sendCell c r) () N) else totPts m ρ c (lent r)

theorem copy_step (c r n : Dev nD) (h : c.val < r.val) (hn : n = r) (k : Fin 3) (hk : seat c = k) (qS qR : DmaSem sig) (hS : qS = sendS r) (hR : qR = recvS c)
    {hsc : (slotM k : Memref sig (Dev.tc n : Thread nD τ).2.kind .vmem S1x512 .f32).view.ref.isScScratch = false}
    {hsrc : (totM : Memref sig .tc .vmem S1x512 .f32).view.WordExact} {hdst : (slotM k).view.WordExact}
    {hsem : DmaTarget.Typed .vmem (.dma qR) (.remote (Dev.tc n : Thread nD τ) (slotM k) (.dma qS) hsc)}
    (O : CellTallies nD τ sig Unit) (kont : PUnit → Prog (TpuEff nD τ sig (Elt F) Λ₀ .tc) α) {Q : α → sProp 𝕄} :
    iprop(records m ρ K ∗ outgoing m ρ c r ∗ owing c (O + oweCopy c r))
      ⊢ iprop(((inflight m ρ c r ∗ owing c O) -∗ wpc c (kont ⟨⟩) Q)
          -∗ wpc c (.op (.enqueueDma totM (.remote (Dev.tc n : Thread nD τ) (slotM k) (.dma qS) hsc) (.dma qR) hsrc hdst hsem) kont) Q) := by
  subst hn hk hS hR
  have hd₁ : c ∈ (plan m ρ).duties (sendCell c n) 0 := by rw [duties_zero, payers_send, if_pos h]; exact Finset.mem_singleton_self _
  have hd₂ : c ∈ (plan m ρ).duties (recvCell n c) 0 := by rw [duties_zero, payers_recv, if_pos h]; exact Finset.mem_singleton_self _
  have hu : O + oweCopy c n = O + tallyAt (recvCell n c) () N := by unfold oweCopy; rw [if_pos h]
  rw [hu]
  unfold outgoing inflight owing barPay
  rw [if_pos h, if_pos h]
  iintro ⟨#HR, ⟨Htot, ⟨⟨%f, Hslot⟩, -⟩, HtR, HtS⟩, ⟨%W, HO⟩⟩ Hk
  unfold totPts slotPts
  iapply (Rounds.wp_send_pointsTo 𝒱₀ ER (plan m ρ) (c : Thread nD τ) none (κ₁ := K (c, kS n)) (κ₂ := K (n, kV c))
    (r₁ := 0) (r₂ := 0) (d₁ := c) (d₂ := c) (fd := f)
    hd₁ hd₂ () () N rfl (amount_dma m ρ _ _ rfl _ _) (amount_dma m ρ _ _ rfl _ _) O rfl (W := W)
    (Entails.of_eq (payload_send m ρ c n h).symm) (Entails.of_eq ((landed m ρ n c h f).trans (payload_recv m ρ n c).symm)))
    $$ [Htot Hslot HtR HtS HO]
  · isplitr; · iapply (inv_send m ρ K c n); iexact HR
    isplitr; · iapply (inv_recv m ρ K n c); iexact HR
    isplitl [Htot]; · iexact Htot
    isplitl [Hslot]; · iexact Hslot
    isplitl [HO]; · iexact HO
    isplitl [HtS]; · iexact HtS
    isplitr; · iapply (reached_send m ρ K c n); iexact HR
    isplitl [HtR]; · iexact HtR
    iapply (reached_recv m ρ K n c); iexact HR
  iintro ⟨Hc, HO⟩
  iapply Hk
  isplitl [Hc]; · iexact Hc
  iexists W; iexact HO

/-- Where no copy goes, nothing is owed and the share stays. -/
theorem no_copy (c r : Dev nD) (h : ¬ c.val < r.val) (O : CellTallies nD τ sig Unit) :
    iprop(outgoing m ρ c r ∗ owing c (O + oweCopy c r)) ⊢ iprop(inflight m ρ c r ∗ owing c O) := by
  unfold outgoing inflight oweCopy
  rw [if_neg h, if_neg h, add_zero]
  iintro ⟨⟨H, -⟩, HO⟩
  isplitl [H] <;> iassumption

/-! ## Waits -/

/-- Device `c`'s place at the semaphore of its copy to `r`, and at that of the copy from `s`, once the round there, if any, is over. -/
def sentAt (c r : Dev nD) : sProp 𝕄 := atPos ER (sendCell c r) (if c.val < r.val then 1 else 0) ∅ 0
def gotAt (c s : Dev nD) : sProp 𝕄 := atPos ER (recvCell c s) (if s.val < c.val then 1 else 0) ∅ 0

/-- The claim on the copy from device `s`, if there is one. -/
def incoming (c s : Dev nD) : sProp 𝕄 := if s.val < c.val then cred (tallyAt (recvCell c s) () N) else iprop(emp)

/-- The wait for one's own copy to leave: the share of the total row comes back. -/
theorem left_step (c r : Dev nD) (h : c.val < r.val) (q : DmaSem sig) (hq : q = sendS r) {sp : Space}
    {src : Memref sig .tc sp S1x512 .f32} {hsrc : src.view.WordExact} {hdst : (totM : Memref sig .tc .vmem S1x512 .f32).view.WordExact}
    (kont : PUnit → Prog (TpuEff nD τ sig (Elt F) Λ₀ .tc) α) {Q : α → sProp 𝕄} :
    iprop(records m ρ K ∗ inflight m ρ c r ∗ atPos ER (sendCell c r) 0 ∅ 0 ∗ owing c 0)
      ⊢ iprop(((totPts m ρ c (lent r) ∗ sentAt c r ∗ owing c 0) -∗ wpc c (kont ⟨⟩) Q)
          -∗ wpc c (.op (.waitDma2 q src totM hsrc hdst) kont) Q) := by
  subst hq
  unfold inflight owing sentAt
  rw [if_pos h, if_pos h]
  iintro ⟨#HR, Hc, Hat, ⟨%W, HO⟩⟩ Hk
  have hw : ∀ K' : PUnit → sProp 𝕄, wpE (defs₀ (F := F)) 𝒱₀ (c : Thread nD τ) none Set.univ (.waitDma2 (sendS r) src totM hsrc hdst) K'
      = waitSpec (c : Thread nD τ) Set.univ (.dma (sendS r)) N K' := fun K' => wpE_waitDma2_eq 𝒱₀ (c : Thread nD τ) none Set.univ K'
  have he : 0 + N = (plan m ρ).expect (sendCell c r) 0 := (Nat.zero_add _).trans (expect_send m ρ c r h).symm
  have st := Rounds.wp_wait_rest_token 𝒱₀ ER (plan m ρ) (c : Thread nD τ) none (κ := K (c, kS r)) (Γ := []) (Q := Q) (k := kont)
      hw (Set.mem_univ _) () (O := 0) (W := W) (R := 0) (m := 0) (T := ∅) he
  iapply st $$ [Hc HO Hat]
  · isplitr; · iapply (inv_send m ρ K c r); iexact HR
    isplitl [Hc]; · iexact Hc
    isplitl [HO]; · iexact HO
    isplitr; · rw [MayWait_zero]; iempintro
    iexact Hat
  iintro ⟨HO, Hat, -, Hpay⟩
  ihave Ht := (Entails.of_eq (rest_send m ρ c r h)) $$ Hpay
  iapply Hk
  isplitl [Ht]; · iexact Ht
  isplitl [Hat]; · iexact Hat
  iexists _; iexact HO

theorem no_left (c r : Dev nD) (h : ¬ c.val < r.val) :
    iprop(inflight m ρ c r ∗ atPos ER (sendCell c r) 0 ∅ 0) ⊢ iprop(totPts m ρ c (lent r) ∗ sentAt c r) := by
  unfold inflight sentAt
  rw [if_neg h, if_neg h]

/-- The wait for the copy from device `s`, which the program makes if `s` is earlier: afterwards slot `s` holds what it ends with. -/
theorem got_step (c s : Dev nD) (k : Fin 3) (hk : k.val = s.val) (hs : seat s = k) (p : Prop) [Decidable p] (hp : p ↔ s.val < c.val) (q : DmaSem sig) (hq : q = recvS s)
    {hsrc : (totM : Memref sig .tc .vmem S1x512 .f32).view.WordExact} {hdst : (slotM k).view.WordExact}
    (kont : PUnit → Prog (TpuEff nD τ sig (Elt F) Λ₀ .tc) α) {Q : α → sProp 𝕄} :
    iprop(records m ρ K ∗ incoming c s ∗ kept m ρ c k ∗ atPos ER (recvCell c s) 0 ∅ 0 ∗ owing c 0)
      ⊢ iprop(((slotPts c k (commAt m ρ c) ∗ gotAt c s ∗ owing c 0) -∗ wpc c (kont ⟨⟩) Q)
          -∗ wpc c (if h : p then .op (.waitDma2 q totM (slotM k) hsrc hdst) kont else kont ⟨⟩) Q) := by
  subst hs hq
  unfold incoming kept owing gotAt
  by_cases h : p
  · have hlt := hp.mp h
    rw [if_pos hlt, if_pos hlt, if_pos (by omega), dif_pos h]
    iintro ⟨#HR, Hc, -, Hat, ⟨%W, HO⟩⟩ Hk
    have hw : ∀ K' : PUnit → sProp 𝕄, wpE (defs₀ (F := F)) 𝒱₀ (c : Thread nD τ) none Set.univ (.waitDma2 (recvS s) totM (slotM (seat s)) hsrc hdst) K'
        = waitSpec (c : Thread nD τ) Set.univ (.dma (recvS s)) N K' := fun K' => wpE_waitDma2_eq 𝒱₀ (c : Thread nD τ) none Set.univ K'
    have he : 0 + N = (plan m ρ).expect (recvCell c s) 0 := (Nat.zero_add _).trans (expect_recv m ρ c s hlt).symm
    have st := Rounds.wp_wait_rest_token 𝒱₀ ER (plan m ρ) (c : Thread nD τ) none (κ := K (c, kV s)) (Γ := []) (Q := Q) (k := kont)
        hw (Set.mem_univ _) () (O := 0) (W := W) (R := 0) (m := 0) (T := ∅) he
    iapply st $$ [Hc HO Hat]
    · isplitr; · iapply (inv_recv m ρ K c s); iexact HR
      isplitl [Hc]; · iexact Hc
      isplitl [HO]; · iexact HO
      isplitr; · rw [MayWait_zero]; iempintro
      iexact Hat
    iintro ⟨HO, Hat, -, Hpay⟩
    ihave Ht := (Entails.of_eq (rest_recv m ρ c s hlt)) $$ Hpay
    iapply Hk
    isplitl [Ht]; · iexact Ht
    isplitl [Hat]; · iexact Hat
    iexists _; iexact HO
  · have hge : ¬ s.val < c.val := fun h' => h (hp.mpr h')
    rw [if_neg hge, if_neg hge, if_neg (by omega), dif_neg h]
    iintro ⟨-, -, Hs, Hat, HO⟩ Hk
    iapply Hk
    isplitl [Hs]; · iexact Hs
    isplitl [Hat] <;> iassumption

/-! ## Closing: each semaphore's counter is zero again -/

theorem close_bar (c : Dev nD) : iprop(records m ρ K ∗ atPos ER (barCell c) 1 ∅ 0) ⊢ |={Set.univ}=> (semVal (barCell c) 0 : sProp 𝕄) := by
  iintro ⟨#HR, Hat⟩
  iapply (Rounds.cell_close ER (plan m ρ) (Set.mem_univ (K (c, 0))) (fun h => h) (R := 1) (duties_later m ρ (barCell c)))
  isplitr; · iapply (inv_bar m ρ K c); iexact HR
  iexact Hat

theorem close_send (c r : Dev nD) : iprop(records m ρ K ∗ sentAt c r) ⊢ |={Set.univ}=> (semVal (sendCell c r) 0 : sProp 𝕄) := by
  have hR : ∀ i, (if c.val < r.val then 1 else 0) ≤ i → (plan m ρ).duties (sendCell c r) i = ∅ := fun i hi => by
    rcases Nat.eq_zero_or_pos i with rfl | hi'
    · rw [duties_zero, payers_send, if_neg]
      intro h; rw [if_pos h] at hi; omega
    · exact duties_later m ρ _ i hi'
  unfold sentAt
  iintro ⟨#HR, Hat⟩
  iapply (Rounds.cell_close ER (plan m ρ) (Set.mem_univ (K (c, kS r))) (fun h => h) hR)
  isplitr; · iapply (inv_send m ρ K c r); iexact HR
  iexact Hat

theorem close_recv (c s : Dev nD) : iprop(records m ρ K ∗ gotAt c s) ⊢ |={Set.univ}=> (semVal (recvCell c s) 0 : sProp 𝕄) := by
  have hR : ∀ i, (if s.val < c.val then 1 else 0) ≤ i → (plan m ρ).duties (recvCell c s) i = ∅ := fun i hi => by
    rcases Nat.eq_zero_or_pos i with rfl | hi'
    · rw [duties_zero, payers_recv, if_neg]
      intro h; rw [if_pos h] at hi; omega
    · exact duties_later m ρ _ i hi'
  unfold gotAt
  iintro ⟨#HR, Hat⟩
  iapply (Rounds.cell_close ER (plan m ρ) (Set.mem_univ (K (c, kV s))) (fun h => h) hR)
  isplitr; · iapply (inv_recv m ρ K c s); iexact HR
  iexact Hat

end Cert.Prefix

end
-- ==== Proof.Body.lean ====
/-
The kernel's body on one device, from what the launch hands it to what it leaves: the barrier, the total, the copies to later devices, the
waits for the copies from earlier ones, the result, and the waits for its own copies to leave.
-/
module

public import proofs.«01_k».proof.Proof.Steps
public import proofs.«01_k».proof.Proof.Gen.KernelIdeal.Skeleton

@[expose] public section

noncomputable section

namespace Cert.Prefix

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 9 → ℕ)

/-! ## Whole-buffer reads and writes -/

theorem origin2 : (![0, 0] : Fin 2 → Nat) = fun _ => 0 := funext fun a => by fin_cases a <;> rfl
theorem origin3 : (![0, 0, 0] : Fin 3 → Nat) = fun _ => 0 := funext fun a => by fin_cases a <;> rfl

/-- The two-axis and three-axis buffers as rectangles of their own. -/
abbrev wholeR : Rect S512x512 := Rect.unit (s := S512x512) ![0, 0] S512x512.size inb_S512x512_S512x512_0_0
abbrev commR : Rect S3x1x512 := Rect.unit (s := S3x1x512) ![0, 0, 0] S3x1x512.size inb_S3x1x512_S3x1x512_0_0_0
abbrev totR : Rect S1x512 := Rect.unit (s := S1x512) ![0, 0] S1x512.size inb_S1x512_S1x512_0_0

theorem read_x (f : (cc0_stg0_0 : Ref sig .tc).ty.Contents (Elt F)) : (xM : Memref sig .tc .vmem S512x512 .f32).view.readAt (Elt F) wholeR.toLoadRect f = f :=
  Memref.readAt_unit_zero (Elt F) cc0_stg0_0 origin2 _ f
theorem clear_comm (f w : (cc0_scratch0 : Ref sig .tc).ty.Contents (Elt F)) :
    ((commM : Memref sig .tc .vmem S3x1x512 .f32).access commR : View sig .tc _ _ _).write (Elt F) f w Finset.univ = w :=
  Memref.write_access_unit_zero_univ (Elt F) cc0_scratch0 origin3 _ f w
theorem write_tot (f w : (cc0_scratch1 : Ref sig .tc).ty.Contents (Elt F)) :
    ((totM : Memref sig .tc .vmem S1x512 .f32).access totR : View sig .tc _ _ _).write (Elt F) f w Finset.univ = w :=
  Memref.write_access_unit_zero_univ (Elt F) cc0_scratch1 origin2 _ f w
theorem write_out (f w : (cc0_stg1_0 : Ref sig .tc).ty.Contents (Elt F)) :
    ((oM : Memref sig .tc .vmem S512x512 .f32).access wholeR : View sig .tc _ _ _).write (Elt F) f w Finset.univ = w :=
  Memref.write_access_unit_zero_univ (Elt F) cc0_stg1_0 origin2 _ f w

/-- Buffer `b` of device `c` held whole at contents `f`. -/
abbrev buf (c : Dev nD) (b : Ref sig .tc) (f : Buf (Elt F) ((c : Thread nD τ).loc b)) : sProp 𝕄 := ((c : Thread nD τ).loc b) ↦{fullShare} f

/-! ## The first part: zeros, the barrier, the block read -/

/-- The device's number as the program computes it. -/
abbrev number (c : Dev nD) : BitVec 32 := Scalar.remsi (Scalar.divsi (Dev.word c) 1#32) 4#32

/-- The tokens of device `c`'s four signals. -/
def barToks (c : Dev nD) : sProp 𝕄 :=
  iprop(dutyTok ER (barCell 0) 0 c ∗ dutyTok ER (barCell 1) 0 c ∗ dutyTok ER (barCell 2) 0 c ∗ dutyTok ER (barCell 3) 0 c)
/-- The slots device `c` fills on the others, had at the barrier. -/
def targets (c : Dev nD) : sProp 𝕄 := iprop(barPay c 0 ∗ barPay c 1 ∗ barPay c 2 ∗ barPay c 3)

/-- The program signals device `d` exactly when `d` is another device. -/
theorem signals_0 : ∀ c : Dev nD, k0_cond1 c = 1#1 ↔ (0 : Dev nD) ≠ c := by decide
theorem signals_1 : ∀ c : Dev nD, k0_cond2 c = 1#1 ↔ (1 : Dev nD) ≠ c := by decide
theorem signals_2 : ∀ c : Dev nD, k0_cond3 c = 1#1 ↔ (2 : Dev nD) ≠ c := by decide
theorem signals_3 : ∀ c : Dev nD, k0_cond4 c = 1#1 ↔ (3 : Dev nD) ≠ c := by decide

set_option maxHeartbeats 1000000 in
/-- The first part hands out the landing slots, has those it fills in return, and reads the block. -/
theorem part1 (c : Dev nD) (f : Buf (Elt F) ((c : Thread nD τ).loc cc0_scratch0))
    {Q : (Σ' (d0 : Dev nD) (v2 : BitVec 32) (v22 : FVec F S512x512 .f32), FVec F S32x512 .f32) → sProp 𝕄} :
    iprop(records m ρ K ∗ levAts L lv ∗ barToks c ∗ atPos ER (barCell c) 0 ∅ 0 ∗ cred (tallyAt (barCell c) () 3) ∗ owing c (O₀ c)
        ∗ buf c cc0_scratch0 f ∗ buf c cc0_stg0_0 (xstg m ρ c))
      ⊢ iprop(((targets c ∗ (kept m ρ c 0 ∗ kept m ρ c 1 ∗ kept m ρ c 2) ∗ atPos ER (barCell c) 1 ∅ 0 ∗ owing c (copiesOwed c)
            ∗ buf c cc0_stg0_0 (xstg m ρ c)) -∗ Q ⟨c, number c, k0_pay3 (xstg m ρ c), k0_pay4 (xstg m ρ c)⟩)
          -∗ wpc c (k0_part1 xM (Memref.isWhole_whole _) oM (Memref.isWhole_whole _) commM (Memref.isWhole_whole _) totM (Memref.isWhole_whole _)
            cc0_scratch2 cc0_scratch3) Q) := by
  rw [k0_part1_eq_skeleton]; unfold k0_part1_skel
  simp only [semSignalWord, semWaitWord, Prog.lift, Prog.bind_op, Prog.bind_ret, Prog.pure_eq_ret, wp_deviceId]
  unfold barToks
  iintro ⟨#HR, #Hlev, ⟨Ht0, Ht1, Ht2, Ht3⟩, Hat, Hcr, HO, Hs, Hx⟩ Hk
  iapply (wp_load 𝒱₀ (c : Thread nD τ) none Set.univ (m := commM) (Finset.subset_univ _)) $$ Hs; iintro Hs
  iapply (wp_store 𝒱₀ (c : Thread nD τ) none Set.univ (m := commM) (r := commR) (Mk := Finset.univ) (Finset.subset_univ _)) $$ Hs; iintro Hs
  rw [clear_comm]
  ihave Hd := (deal_slots m ρ K c) $$ [Hs]
  · isplitr; · iexact HR
    iexact Hs
  icases Hd with ⟨⟨P0, P1, P2, P3⟩, HK⟩
  unfold O₀
  iapply (signal_step m ρ K c 0 (k0_cond1 c = 1#1) (signals_0 c) (fun h => ⟨k0_dev1, k0_dev1_lt c h⟩) (fun h => rfl) _ _) $$ [Ht0 P0 HO]
  · isplitr; · iexact HR
    isplitl [Ht0]; · iexact Ht0
    isplitl [P0] <;> iassumption
  iintro HO
  iapply (signal_step m ρ K c 1 (k0_cond2 c = 1#1) (signals_1 c) (fun h => ⟨k0_dev2, k0_dev2_lt c h⟩) (fun h => rfl) _ _) $$ [Ht1 P1 HO]
  · isplitr; · iexact HR
    isplitl [Ht1]; · iexact Ht1
    isplitl [P1] <;> iassumption
  iintro HO
  iapply (signal_step m ρ K c 2 (k0_cond3 c = 1#1) (signals_2 c) (fun h => ⟨k0_dev3, k0_dev3_lt c h⟩) (fun h => rfl) _ _) $$ [Ht2 P2 HO]
  · isplitr; · iexact HR
    isplitl [Ht2]; · iexact Ht2
    isplitl [P2] <;> iassumption
  iintro HO
  iapply (signal_step m ρ K c 3 (k0_cond4 c = 1#1) (signals_3 c) (fun h => ⟨k0_dev4, k0_dev4_lt c h⟩) (fun h => rfl) _ _) $$ [Ht3 P3 HO]
  · isplitr; · iexact HR
    isplitl [Ht3]; · iexact Ht3
    isplitl [P3] <;> iassumption
  iintro HO
  unfold owing
  icases HO with ⟨%W, HO⟩
  have hw : ∀ K' : PUnit → sProp 𝕄, wpE (defs₀ (F := F)) 𝒱₀ (c : Thread nD τ) none Set.univ (.semWait barS (3#32 : BitVec 32).toInt) K'
      = waitSpec (c : Thread nD τ) Set.univ (.reg barS) 3 K' := fun K' => wpE_semWait_eq 𝒱₀ (c : Thread nD τ) none Set.univ K'
  have he : 0 + 3 = (plan m ρ).expect (barCell c) 0 := (expect_bar m ρ c).symm
  iapply (Rounds.wp_wait_rest_token 𝒱₀ ER (plan m ρ) (c : Thread nD τ) none (κ := K (c, 0)) (Γ := [])
      hw (Set.mem_univ _) () (O := copiesOwed c) (W := W) (R := 0) (m := 0) (T := ∅) he) $$ [Hcr HO Hat]
  · isplitr; · iapply (inv_bar m ρ K c); iexact HR
    isplitl [Hcr]; · iexact Hcr
    isplitl [HO]; · iexact HO
    isplitr; · iapply (mayWait_bar c); iexact Hlev
    iexact Hat
  iintro ⟨HO, Hat, -, Hpay⟩
  ihave Hp := (rest_bar m ρ c) $$ Hpay
  iapply (wp_load 𝒱₀ (c : Thread nD τ) none Set.univ (m := xM) (Finset.subset_univ _)) $$ Hx; iintro Hx
  rw [read_x, wp_ret]; imodintro
  iapply Hk
  isplitl [Hp]; · unfold targets; iexact Hp
  isplitl [HK]; · iexact HK
  isplitl [Hat]; · iexact Hat
  isplitl [HO]; · iexists _; iexact HO
  iexact Hx

/-! ## The copies -/

/-- The operation that copies the total row into slot `seat s` of device `n`, counted by `sendS r` here and by `recvS s` there. -/
abbrev copyOp (n r s : Dev nD) : TpuEff nD τ sig (Elt F) Λ₀ .tc PUnit :=
  .enqueueDma totM (.remote (Dev.tc n : Thread nD τ) (slotM (seat s)) (.dma (sendS r))) (.dma (recvS s)) (Memref.isWhole_whole cc0_scratch1).wordExact
    ((View.wordExact_bits rfl).reshape _ _) ⟨⟨rfl, Or.inl rfl⟩, trivial⟩

/-- Device `c`'s copies before block `s` of them: still to be made unless `c` is one of the devices the earlier blocks were for. -/
def sending (c : Dev nD) (s : ℕ) : sProp 𝕄 :=
  if c.val < s then iprop(inflight m ρ c 1 ∗ inflight m ρ c 2 ∗ inflight m ρ c 3 ∗ owing c 0)
  else iprop(outgoing m ρ c 1 ∗ outgoing m ρ c 2 ∗ outgoing m ρ c 3 ∗ owing c (copiesOwed c))

/-- The copies of one block, peer by peer: each peer's copy is made, or, where no copy goes there, nothing. -/
theorem copies_of (c : Dev nD) (s : ℕ) (p : Prop) [Decidable p] (hp : p ↔ c.val = s) {α : Type} {Q : α → sProp 𝕄}
    (k₁ : p → Prog (TpuEff nD τ sig (Elt F) Λ₀ .tc) α) (k₀ : Prog (TpuEff nD τ sig (Elt F) Λ₀ .tc) α)
    (h₁ : ∀ h : p, iprop(records m ρ K ∗ outgoing m ρ c 1 ∗ outgoing m ρ c 2 ∗ outgoing m ρ c 3 ∗ owing c (0 + oweCopy c 3 + oweCopy c 2 + oweCopy c 1))
      ⊢ iprop((iprop(inflight m ρ c 1 ∗ inflight m ρ c 2 ∗ inflight m ρ c 3 ∗ owing c 0) -∗ wpc c k₀ Q) -∗ wpc c (k₁ h) Q)) :
    iprop(records m ρ K ∗ sending m ρ c s)
      ⊢ iprop((sending m ρ c (s + 1) -∗ wpc c k₀ Q) -∗ wpc c (if h : p then k₁ h else k₀) Q) := by
  unfold sending
  by_cases h : p
  · have hs := hp.mp h
    rw [if_neg (by omega), if_pos (by omega), dif_pos h]
    exact h₁ h
  · have hs : c.val ≠ s := fun h' => h (hp.mpr h')
    rw [dif_neg h]
    iintro ⟨-, H⟩ Hk
    iapply Hk
    by_cases h' : c.val < s
    · rw [if_pos h', if_pos (by omega)]; exact Entails.refl _
    · rw [if_neg h', if_neg (by omega)]; exact Entails.refl _

theorem copies_0 (c : Dev nD) (p : Prop) [Decidable p] (hp : p ↔ c.val = 0) (n₁ n₂ n₃ : p → Dev nD) (h₁ : ∀ h, n₁ h = 1) (h₂ : ∀ h, n₂ h = 2)
    (h₃ : ∀ h, n₃ h = 3) {α : Type} (k₀ : Prog (TpuEff nD τ sig (Elt F) Λ₀ .tc) α) {Q : α → sProp 𝕄} :
    iprop(records m ρ K ∗ sending m ρ c 0)
      ⊢ iprop((sending m ρ c 1 -∗ wpc c k₀ Q)
          -∗ wpc c (if h : p then .op (copyOp (n₁ h) 1 0) fun _ => .op (copyOp (n₂ h) 2 0) fun _ => .op (copyOp (n₃ h) 3 0) fun _ => k₀ else k₀) Q) := by
  refine copies_of m ρ K c 0 p hp _ k₀ fun h => ?_
  have hc : c = 0 := Fin.ext (hp.mp h)
  subst hc
  iintro ⟨#HR, H1, H2, H3, HO⟩ Hk
  iapply (copy_step m ρ K 0 1 (n₁ h) (by decide) (h₁ h) _ rfl _ _ rfl rfl _ _) $$ [H1 HO]
  · isplitr; · iexact HR
    isplitl [H1] <;> iassumption
  iintro ⟨H1, HO⟩
  iapply (copy_step m ρ K 0 2 (n₂ h) (by decide) (h₂ h) _ rfl _ _ rfl rfl _ _) $$ [H2 HO]
  · isplitr; · iexact HR
    isplitl [H2] <;> iassumption
  iintro ⟨H2, HO⟩
  iapply (copy_step m ρ K 0 3 (n₃ h) (by decide) (h₃ h) _ rfl _ _ rfl rfl _ _) $$ [H3 HO]
  · isplitr; · iexact HR
    isplitl [H3] <;> iassumption
  iintro ⟨H3, HO⟩
  iapply Hk
  isplitl [H1]; · iexact H1
  isplitl [H2]; · iexact H2
  isplitl [H3] <;> iassumption

theorem copies_1 (c : Dev nD) (p : Prop) [Decidable p] (hp : p ↔ c.val = 1) (n₂ n₃ : p → Dev nD) (h₂ : ∀ h, n₂ h = 2)
    (h₃ : ∀ h, n₃ h = 3) {α : Type} (k₀ : Prog (TpuEff nD τ sig (Elt F) Λ₀ .tc) α) {Q : α → sProp 𝕄} :
    iprop(records m ρ K ∗ sending m ρ c 1)
      ⊢ iprop((sending m ρ c 2 -∗ wpc c k₀ Q)
          -∗ wpc c (if h : p then .op (copyOp (n₂ h) 2 1) fun _ => .op (copyOp (n₃ h) 3 1) fun _ => k₀ else k₀) Q) := by
  refine copies_of m ρ K c 1 p hp _ k₀ fun h => ?_
  have hc : c = 1 := Fin.ext (hp.mp h)
  subst hc
  iintro ⟨#HR, H1, H2, H3, HO⟩ Hk
  ihave H := (no_copy m ρ 1 1 (by decide) _) $$ [H1 HO]
  · isplitl [H1] <;> iassumption
  icases H with ⟨H1, HO⟩
  iapply (copy_step m ρ K 1 2 (n₂ h) (by decide) (h₂ h) _ rfl _ _ rfl rfl _ _) $$ [H2 HO]
  · isplitr; · iexact HR
    isplitl [H2] <;> iassumption
  iintro ⟨H2, HO⟩
  iapply (copy_step m ρ K 1 3 (n₃ h) (by decide) (h₃ h) _ rfl _ _ rfl rfl _ _) $$ [H3 HO]
  · isplitr; · iexact HR
    isplitl [H3] <;> iassumption
  iintro ⟨H3, HO⟩
  iapply Hk
  isplitl [H1]; · iexact H1
  isplitl [H2]; · iexact H2
  isplitl [H3] <;> iassumption

theorem copies_2 (c : Dev nD) (p : Prop) [Decidable p] (hp : p ↔ c.val = 2) (n₃ : p → Dev nD) (h₃ : ∀ h, n₃ h = 3)
    {α : Type} (k₀ : Prog (TpuEff nD τ sig (Elt F) Λ₀ .tc) α) {Q : α → sProp 𝕄} :
    iprop(records m ρ K ∗ sending m ρ c 2)
      ⊢ iprop((sending m ρ c 3 -∗ wpc c k₀ Q)
          -∗ wpc c (if h : p then .op (copyOp (n₃ h) 3 2) fun _ => k₀ else k₀) Q) := by
  refine copies_of m ρ K c 2 p hp _ k₀ fun h => ?_
  have hc : c = 2 := Fin.ext (hp.mp h)
  subst hc
  iintro ⟨#HR, H1, H2, H3, HO⟩ Hk
  ihave H := (no_copy m ρ 2 1 (by decide) _) $$ [H1 HO]
  · isplitl [H1] <;> iassumption
  icases H with ⟨H1, HO⟩
  ihave H := (no_copy m ρ 2 2 (by decide) _) $$ [H2 HO]
  · isplitl [H2] <;> iassumption
  icases H with ⟨H2, HO⟩
  iapply (copy_step m ρ K 2 3 (n₃ h) (by decide) (h₃ h) _ rfl _ _ rfl rfl _ _) $$ [H3 HO]
  · isplitr; · iexact HR
    isplitl [H3] <;> iassumption
  iintro ⟨H3, HO⟩
  iapply Hk
  isplitl [H1]; · iexact H1
  isplitl [H2]; · iexact H2
  isplitl [H3] <;> iassumption

/-- After the last block nothing is left to copy: the last device never had a copy to make. -/
theorem copies_done (c : Dev nD) :
    sending m ρ c 3 ⊢ iprop(inflight m ρ c 1 ∗ inflight m ρ c 2 ∗ inflight m ρ c 3 ∗ owing c 0) := by
  unfold sending
  by_cases h : c.val < 3
  · rw [if_pos h]
  · rw [if_neg h]
    unfold copiesOwed
    iintro ⟨H1, H2, H3, HO⟩
    ihave H := (no_copy m ρ c 1 (fun h' => h (lt_trans h' (by decide))) _) $$ [H1 HO]
    · isplitl [H1] <;> iassumption
    icases H with ⟨H1, HO⟩
    ihave H := (no_copy m ρ c 2 (fun h' => h (lt_trans h' (by decide))) _) $$ [H2 HO]
    · isplitl [H2] <;> iassumption
    icases H with ⟨H2, HO⟩
    ihave H := (no_copy m ρ c 3 h _) $$ [H3 HO]
    · isplitl [H3] <;> iassumption
    icases H with ⟨H3, HO⟩
    isplitl [H1]; · iexact H1
    isplitl [H2]; · iexact H2
    isplitl [H3] <;> iassumption

/-! ## The waits for the device's own copies to leave -/

/-- The operation that waits for the copy to device `r`, out of slot `seat s`'s shape. -/
abbrev leftOp (r s : Dev nD) : TpuEff nD τ sig (Elt F) Λ₀ .tc PUnit :=
  .waitDma2 (sendS r) (slotM (seat s)) totM ((View.wordExact_bits rfl).reshape _ _) (Memref.isWhole_whole cc0_scratch1).wordExact

/-- Before and after the waits of the device's own copies. -/
def away (c : Dev nD) : sProp 𝕄 :=
  iprop((inflight m ρ c 1 ∗ inflight m ρ c 2 ∗ inflight m ρ c 3)
    ∗ (atPos ER (sendCell c 1) 0 ∅ 0 ∗ atPos ER (sendCell c 2) 0 ∅ 0 ∗ atPos ER (sendCell c 3) 0 ∅ 0) ∗ owing c 0)
def home (c : Dev nD) : sProp 𝕄 :=
  iprop((totPts m ρ c (lent 1) ∗ totPts m ρ c (lent 2) ∗ totPts m ρ c (lent 3)) ∗ (sentAt c 1 ∗ sentAt c 2 ∗ sentAt c 3) ∗ owing c 0)
def leaving (c : Dev nD) (s : ℕ) : sProp 𝕄 := if c.val < s then home m ρ c else away m ρ c

/-- The waits of one block: either the device is the one the block is for, or nothing happens. -/
theorem waits_of (c : Dev nD) (s : ℕ) (p : Prop) [Decidable p] (hp : p ↔ c.val = s) {α : Type} {Q : α → sProp 𝕄}
    (k₁ k₀ : Prog (TpuEff nD τ sig (Elt F) Λ₀ .tc) α)
    (h₁ : p → iprop(records m ρ K ∗ away m ρ c) ⊢ iprop((home m ρ c -∗ wpc c k₀ Q) -∗ wpc c k₁ Q)) :
    iprop(records m ρ K ∗ leaving m ρ c s)
      ⊢ iprop((leaving m ρ c (s + 1) -∗ wpc c k₀ Q) -∗ wpc c (if h : p then k₁ else k₀) Q) := by
  unfold leaving
  by_cases h : p
  · have hs := hp.mp h
    rw [if_neg (by omega), if_pos (by omega), dif_pos h]
    exact h₁ h
  · have hs : c.val ≠ s := fun h' => h (hp.mpr h')
    rw [dif_neg h]
    iintro ⟨-, H⟩ Hk
    iapply Hk
    by_cases h' : c.val < s
    · rw [if_pos h', if_pos (by omega)]; exact Entails.refl _
    · rw [if_neg h', if_neg (by omega)]; exact Entails.refl _

theorem waits_0 (c : Dev nD) (p : Prop) [Decidable p] (hp : p ↔ c.val = 0) {α : Type} (k₀ : Prog (TpuEff nD τ sig (Elt F) Λ₀ .tc) α)
    {Q : α → sProp 𝕄} :
    iprop(records m ρ K ∗ leaving m ρ c 0)
      ⊢ iprop((leaving m ρ c 1 -∗ wpc c k₀ Q)
          -∗ wpc c (if h : p then .op (leftOp 1 0) fun _ => .op (leftOp 2 0) fun _ => .op (leftOp 3 0) fun _ => k₀ else k₀) Q) := by
  refine waits_of m ρ K c 0 p hp _ k₀ fun h => ?_
  have hc : c = 0 := Fin.ext (hp.mp h)
  subst hc
  unfold away home
  iintro ⟨#HR, ⟨H1, H2, H3⟩, ⟨A1, A2, A3⟩, HO⟩ Hk
  iapply (left_step m ρ K 0 1 (by decide) _ rfl _) $$ [H1 A1 HO]
  · isplitr; · iexact HR
    isplitl [H1]; · iexact H1
    isplitl [A1] <;> iassumption
  iintro ⟨H1, A1, HO⟩
  iapply (left_step m ρ K 0 2 (by decide) _ rfl _) $$ [H2 A2 HO]
  · isplitr; · iexact HR
    isplitl [H2]; · iexact H2
    isplitl [A2] <;> iassumption
  iintro ⟨H2, A2, HO⟩
  iapply (left_step m ρ K 0 3 (by decide) _ rfl _) $$ [H3 A3 HO]
  · isplitr; · iexact HR
    isplitl [H3]; · iexact H3
    isplitl [A3] <;> iassumption
  iintro ⟨H3, A3, HO⟩
  iapply Hk
  isplitl [H1 H2 H3]
  · isplitl [H1]; · iexact H1
    isplitl [H2] <;> iassumption
  isplitl [A1 A2 A3]
  · isplitl [A1]; · iexact A1
    isplitl [A2] <;> iassumption
  iexact HO

theorem waits_1 (c : Dev nD) (p : Prop) [Decidable p] (hp : p ↔ c.val = 1) {α : Type} (k₀ : Prog (TpuEff nD τ sig (Elt F) Λ₀ .tc) α)
    {Q : α → sProp 𝕄} :
    iprop(records m ρ K ∗ leaving m ρ c 1)
      ⊢ iprop((leaving m ρ c 2 -∗ wpc c k₀ Q)
          -∗ wpc c (if h : p then .op (leftOp 2 1) fun _ => .op (leftOp 3 1) fun _ => k₀ else k₀) Q) := by
  refine waits_of m ρ K c 1 p hp _ k₀ fun h => ?_
  have hc : c = 1 := Fin.ext (hp.mp h)
  subst hc
  unfold away home
  iintro ⟨#HR, ⟨H1, H2, H3⟩, ⟨A1, A2, A3⟩, HO⟩ Hk
  ihave H := (no_left m ρ 1 1 (by decide)) $$ [H1 A1]
  · isplitl [H1] <;> iassumption
  icases H with ⟨H1, A1⟩
  iapply (left_step m ρ K 1 2 (by decide) _ rfl _) $$ [H2 A2 HO]
  · isplitr; · iexact HR
    isplitl [H2]; · iexact H2
    isplitl [A2] <;> iassumption
  iintro ⟨H2, A2, HO⟩
  iapply (left_step m ρ K 1 3 (by decide) _ rfl _) $$ [H3 A3 HO]
  · isplitr; · iexact HR
    isplitl [H3]; · iexact H3
    isplitl [A3] <;> iassumption
  iintro ⟨H3, A3, HO⟩
  iapply Hk
  isplitl [H1 H2 H3]
  · isplitl [H1]; · iexact H1
    isplitl [H2] <;> iassumption
  isplitl [A1 A2 A3]
  · isplitl [A1]; · iexact A1
    isplitl [A2] <;> iassumption
  iexact HO

theorem waits_2 (c : Dev nD) (p : Prop) [Decidable p] (hp : p ↔ c.val = 2) {α : Type} (k₀ : Prog (TpuEff nD τ sig (Elt F) Λ₀ .tc) α)
    {Q : α → sProp 𝕄} :
    iprop(records m ρ K ∗ leaving m ρ c 2)
      ⊢ iprop((leaving m ρ c 3 -∗ wpc c k₀ Q)
          -∗ wpc c (if h : p then .op (leftOp 3 2) fun _ => k₀ else k₀) Q) := by
  refine waits_of m ρ K c 2 p hp _ k₀ fun h => ?_
  have hc : c = 2 := Fin.ext (hp.mp h)
  subst hc
  unfold away home
  iintro ⟨#HR, ⟨H1, H2, H3⟩, ⟨A1, A2, A3⟩, HO⟩ Hk
  ihave H := (no_left m ρ 2 1 (by decide)) $$ [H1 A1]
  · isplitl [H1] <;> iassumption
  icases H with ⟨H1, A1⟩
  ihave H := (no_left m ρ 2 2 (by decide)) $$ [H2 A2]
  · isplitl [H2] <;> iassumption
  icases H with ⟨H2, A2⟩
  iapply (left_step m ρ K 2 3 (by decide) _ rfl _) $$ [H3 A3 HO]
  · isplitr; · iexact HR
    isplitl [H3]; · iexact H3
    isplitl [A3] <;> iassumption
  iintro ⟨H3, A3, HO⟩
  iapply Hk
  isplitl [H1 H2 H3]
  · isplitl [H1]; · iexact H1
    isplitl [H2] <;> iassumption
  isplitl [A1 A2 A3]
  · isplitl [A1]; · iexact A1
    isplitl [A2] <;> iassumption
  iexact HO

/-- After the last block every share of the total row is home. -/
theorem waits_done (c : Dev nD) : leaving m ρ c 3 ⊢ home m ρ c := by
  unfold leaving
  by_cases h : c.val < 3
  · rw [if_pos h]
  · rw [if_neg h]
    unfold away home
    iintro ⟨⟨H1, H2, H3⟩, ⟨A1, A2, A3⟩, HO⟩
    ihave H := (no_left m ρ c 1 (fun h' => h (lt_trans h' (by decide)))) $$ [H1 A1]
    · isplitl [H1] <;> iassumption
    icases H with ⟨H1, A1⟩
    ihave H := (no_left m ρ c 2 (fun h' => h (lt_trans h' (by decide)))) $$ [H2 A2]
    · isplitl [H2] <;> iassumption
    icases H with ⟨H2, A2⟩
    ihave H := (no_left m ρ c 3 h) $$ [H3 A3]
    · isplitl [H3] <;> iassumption
    icases H with ⟨H3, A3⟩
    isplitl [H1 H2 H3]
    · isplitl [H1]; · iexact H1
      isplitl [H2] <;> iassumption
    isplitl [A1 A2 A3]
    · isplitl [A1]; · iexact A1
      isplitl [A2] <;> iassumption
    iexact HO

/-- The total row held whole is its three shares. -/
theorem shares_eq (c : Dev nD) :
    (buf c cc0_scratch1 (tot m ρ c) : sProp 𝕄) ⊣⊢ iprop(totPts m ρ c (lent 1) ∗ totPts m ρ c (lent 2) ∗ totPts m ρ c (lent 3)) := by
  unfold totPts
  simp only [Memref.view_whole, View.set_whole]
  exact (pointsTo_share (PosShare.mem_left_op_right fullShare)).trans
    (sep_congr ⟨Entails.refl _, Entails.refl _⟩ (pointsTo_share (PosShare.mem_left_op_right fullShare.right)))

end Cert.Prefix

end
-- ==== Proof.Whole.lean ====
/-
The second part of the body, and the body from end to end.
-/
module

public import proofs.«01_k».proof.Proof.Body

@[expose] public section

noncomputable section

namespace Cert.Prefix

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 9 → ℕ)

/-! ## The second part: the total, the copies, two of the waits for others' -/

theorem sends_0 : ∀ c : Dev nD, k0_cond5 c = 1#1 ↔ c.val = 0 := by decide
theorem sends_1 : ∀ c : Dev nD, k0_cond6 c = 1#1 ↔ c.val = 1 := by decide
theorem sends_2 : ∀ c : Dev nD, k0_cond7 c = 1#1 ↔ c.val = 2 := by decide
/-- The comparisons the program makes with its own number. -/
theorem above_0 : ∀ c : Dev nD, Scalar.cmpi .ne (Scalar.extui (Scalar.cmpi .sgt (number c) 0#32) : BitVec 32) 0#32 = 1#1 ↔ (0 : Dev nD).val < c.val := by decide
theorem above_1 : ∀ c : Dev nD, Scalar.cmpi .ne (Scalar.extui (Scalar.cmpi .sgt (number c) 1#32) : BitVec 32) 0#32 = 1#1 ↔ (1 : Dev nD).val < c.val := by decide
theorem above_2 : ∀ c : Dev nD, Scalar.cmpi .ne (Scalar.extui (Scalar.cmpi .sgt (number c) 2#32) : BitVec 32) 0#32 = 1#1 ↔ (2 : Dev nD).val < c.val := by decide
theorem equal_0 : ∀ c : Dev nD, Scalar.cmpi .ne (Scalar.extui (Scalar.cmpi .eq (number c) 0#32) : BitVec 32) 0#32 = 1#1 ↔ c.val = 0 := by decide
theorem equal_1 : ∀ c : Dev nD, Scalar.cmpi .ne (Scalar.extui (Scalar.cmpi .eq (number c) 1#32) : BitVec 32) 0#32 = 1#1 ↔ c.val = 1 := by decide
theorem equal_2 : ∀ c : Dev nD, Scalar.cmpi .ne (Scalar.extui (Scalar.cmpi .eq (number c) 2#32) : BitVec 32) 0#32 = 1#1 ↔ c.val = 2 := by decide

/-- The tokens of device `c`'s copies: its payments on the receivers, and on itself. -/
def copyToks (c : Dev nD) : sProp 𝕄 :=
  iprop((dutyTok ER (recvCell 1 c) 0 c ∗ dutyTok ER (recvCell 2 c) 0 c ∗ dutyTok ER (recvCell 3 c) 0 c)
    ∗ (dutyTok ER (sendCell c 1) 0 c ∗ dutyTok ER (sendCell c 2) 0 c ∗ dutyTok ER (sendCell c 3) 0 c))

set_option maxHeartbeats 2000000 in
/-- The second part stores the total, copies it to the later devices and waits for the first two devices' totals. -/
theorem part2 (c : Dev nD) (v22 : FVec F S512x512 .f32) (v34 : FVec F S32x512 .f32) (hv : k0_pay5 v34 = tot m ρ c)
    (f : Buf (Elt F) ((c : Thread nD τ).loc cc0_scratch1)) {Q : FVec F S512x512 .f32 → sProp 𝕄} :
    iprop(records m ρ K ∗ targets c ∗ copyToks c ∗ (kept m ρ c 0 ∗ kept m ρ c 1) ∗ (incoming c 0 ∗ incoming c 1)
        ∗ (atPos ER (recvCell c 0) 0 ∅ 0 ∗ atPos ER (recvCell c 1) 0 ∅ 0) ∗ owing c (copiesOwed c) ∗ buf c cc0_scratch1 f)
      ⊢ iprop((((inflight m ρ c 1 ∗ inflight m ρ c 2 ∗ inflight m ρ c 3) ∗ (slotPts c 0 (commAt m ρ c) ∗ slotPts c 1 (commAt m ρ c))
            ∗ (gotAt c 0 ∗ gotAt c 1) ∗ owing c 0) -∗ Q (k0_pay6 v22))
          -∗ wpc c (k0_part2 xM (Memref.isWhole_whole _) oM (Memref.isWhole_whole _) commM (Memref.isWhole_whole _) totM (Memref.isWhole_whole _)
            cc0_scratch2 cc0_scratch3 c (number c) v22 v34) Q) := by
  rw [k0_part2_eq_skeleton]; unfold k0_part2_skel
  simp only [Prog.lift, Prog.bind_op, Prog.bind_ret, Prog.pure_eq_ret]
  unfold targets copyToks
  iintro ⟨#HR, ⟨-, P1, P2, P3⟩, ⟨⟨R1, R2, R3⟩, S1, S2, S3⟩, ⟨K0, K1⟩, ⟨C0, C1⟩, ⟨A0, A1⟩, HO, Ht⟩ Hk
  iapply (wp_load 𝒱₀ (c : Thread nD τ) none Set.univ (m := totM) (Finset.subset_univ _)) $$ Ht; iintro Ht
  iapply (wp_store 𝒱₀ (c : Thread nD τ) none Set.univ (m := totM) (r := totR) (Mk := Finset.univ) (Finset.subset_univ _)) $$ Ht; iintro Ht
  rw [write_tot, hv]
  ihave Hs := (shares_eq m ρ c).1 $$ Ht
  icases Hs with ⟨T1, T2, T3⟩
  ihave HS : sending m ρ c 0 $$ [P1 P2 P3 R1 R2 R3 S1 S2 S3 T1 T2 T3 HO]
  · unfold sending outgoing
    rw [if_neg (Nat.not_lt_zero _)]
    isplitl [P1 R1 S1 T1]
    · isplitl [T1]; · iexact T1
      isplitl [P1]; · iexact P1
      isplitl [R1] <;> iassumption
    isplitl [P2 R2 S2 T2]
    · isplitl [T2]; · iexact T2
      isplitl [P2]; · iexact P2
      isplitl [R2] <;> iassumption
    isplitl [P3 R3 S3 T3]
    · isplitl [T3]; · iexact T3
      isplitl [P3]; · iexact P3
      isplitl [R3] <;> iassumption
    iexact HO
  iapply (copies_0 m ρ K c (k0_cond5 c = 1#1) (sends_0 c) (fun h => ⟨k0_dev5, k0_dev5_lt c h⟩) (fun h => ⟨k0_dev6, k0_dev6_lt c h⟩)
    (fun h => ⟨k0_dev7, k0_dev7_lt c h⟩) (fun _ => rfl) (fun _ => rfl) (fun _ => rfl) _) $$ [HS]
  · isplitr; · iexact HR
    iexact HS
  iintro HS
  iapply (copies_1 m ρ K c (k0_cond6 c = 1#1) (sends_1 c) (fun h => ⟨k0_dev8, k0_dev8_lt c h⟩) (fun h => ⟨k0_dev9, k0_dev9_lt c h⟩)
    (fun _ => rfl) (fun _ => rfl) _) $$ [HS]
  · isplitr; · iexact HR
    iexact HS
  iintro HS
  iapply (copies_2 m ρ K c (k0_cond7 c = 1#1) (sends_2 c) (fun h => ⟨k0_dev10, k0_dev10_lt c h⟩) (fun _ => rfl) _) $$ [HS]
  · isplitr; · iexact HR
    iexact HS
  iintro HS
  ihave HS' := (copies_done m ρ c) $$ HS
  icases HS' with ⟨I1, I2, I3, HO⟩
  iapply (got_step m ρ K c 0 0 rfl rfl _ (above_0 c) _ rfl _) $$ [C0 K0 A0 HO]
  · isplitr; · iexact HR
    isplitl [C0]; · iexact C0
    isplitl [K0]; · iexact K0
    isplitl [A0] <;> iassumption
  iintro ⟨B0, A0, HO⟩
  iapply (got_step m ρ K c 1 1 rfl rfl _ (above_1 c) _ rfl _) $$ [C1 K1 A1 HO]
  · isplitr; · iexact HR
    isplitl [C1]; · iexact C1
    isplitl [K1]; · iexact K1
    isplitl [A1] <;> iassumption
  iintro ⟨B1, A1, HO⟩
  unfold wpc
  rw [wp_ret]; imodintro
  iapply Hk
  isplitl [I1 I2 I3]
  · isplitl [I1]; · iexact I1
    isplitl [I2] <;> iassumption
  isplitl [B0 B1]
  · isplitl [B0] <;> iassumption
  isplitl [A0 A1]
  · isplitl [A0] <;> iassumption
  iexact HO

/-! ## The whole body -/

/-- Slot `s` of what the landing buffer ends with, as the program reads it. -/
def slotRead (c : Dev nD) (s : Fin 3) : Vec F S1x1x512 .f32 := (commM : Memref sig .tc .vmem S3x1x512 .f32).view.readAt (Elt F) (slotR s).toLoadRect (commAt m ρ c)

/-- The kernel's result on device `c`. -/
def outAt (c : Dev nD) : (cc0_stg1_0 : Ref sig .tc).ty.Contents (Elt F) :=
  k0_pay1 (k0_pay6 (k0_pay3 (xstg m ρ c))) (slotRead m ρ c 0) (slotRead m ρ c 1) (slotRead m ρ c 2)

/-- Device `c`'s places at its nine semaphores at the start. -/
def positions (c : Dev nD) : sProp 𝕄 :=
  iprop(atPos ER (barCell c) 0 ∅ 0 ∗ (bigSep Finset.univ fun r : Dev nD => atPos ER (sendCell c r) 0 ∅ 0)
    ∗ bigSep Finset.univ fun s : Dev nD => atPos ER (recvCell c s) 0 ∅ 0)
/-- Its places when every round there is over. -/
def finished (c : Dev nD) : sProp 𝕄 :=
  iprop(atPos ER (barCell c) 1 ∅ 0 ∗ (bigSep Finset.univ fun r : Dev nD => sentAt c r) ∗ bigSep Finset.univ fun s : Dev nD => gotAt c s)
/-- Its nine counters at zero. -/
def zeros (c : Dev nD) : sProp 𝕄 :=
  iprop(semVal (barCell c) 0 ∗ (bigSep Finset.univ fun r : Dev nD => semVal (sendCell c r) 0) ∗ bigSep Finset.univ fun s : Dev nD => semVal (recvCell c s) 0)

theorem closing (c : Dev nD) : iprop(records m ρ K ∗ finished c) ⊢ |={Set.univ}=> (zeros c : sProp 𝕄) := by
  unfold finished zeros
  iintro ⟨#HR, HB, HS, HV⟩
  imod (close_bar m ρ K c) $$ [HB] with HB
  · isplitr <;> iassumption
  imod ((bigSep_with_persistent (R := records m ρ K) (S := Finset.univ) (Φ := fun r : Dev nD => (sentAt c r : sProp 𝕄))
    fun r _ => close_send m ρ K c r).trans (bigSep_fupd _ _)) $$ [HS] with HS
  · isplitr <;> iassumption
  imod ((bigSep_with_persistent (R := records m ρ K) (S := Finset.univ) (Φ := fun s : Dev nD => (gotAt c s : sProp 𝕄))
    fun s _ => close_recv m ρ K c s).trans (bigSep_fupd _ _)) $$ [HV] with HV
  · isplitr <;> iassumption
  imodintro
  isplitl [HB]; · iexact HB
  isplitl [HS] <;> iassumption

/-- The places no wait moves: the copy a device would send to device 0, and the one it would have from device 3. -/
theorem never_sent (c : Dev nD) : (atPos ER (sendCell c 0) 0 ∅ 0 : sProp 𝕄) = sentAt c 0 := by
  unfold sentAt; rw [if_neg (show ¬ c.val < (0 : Dev nD).val from Nat.not_lt_zero _)]
theorem never_got (c : Dev nD) : (atPos ER (recvCell c 3) 0 ∅ 0 : sProp 𝕄) = gotAt c 3 := by
  unfold gotAt; rw [if_neg (show ¬ (3 : Dev nD).val < c.val by revert c; decide)]

/-- What the launch gives device `c` besides the records: its places and the tokens of its payments. -/
def handed (c : Dev nD) : sProp 𝕄 := iprop(positions c ∗ barToks c ∗ copyToks c)
/-- Its claims: three units at the barrier, and the copies from earlier devices. -/
def claims (c : Dev nD) : sProp 𝕄 := iprop(cred (tallyAt (barCell c) () 3) ∗ incoming c 0 ∗ incoming c 1 ∗ incoming c 2)

set_option maxHeartbeats 4000000 in
/-- The body, from what the launch hands the device to the result stored, every share home and every counter at zero. -/
theorem body (c : Dev nD) (f₀ : Buf (Elt F) ((c : Thread nD τ).loc cc0_scratch0)) (f₁ : Buf (Elt F) ((c : Thread nD τ).loc cc0_scratch1))
    (fo : Buf (Elt F) ((c : Thread nD τ).loc cc0_stg1_0)) {Q : PUnit → sProp 𝕄} :
    iprop(records m ρ K ∗ levAts L lv ∗ handed c ∗ claims c ∗ owing c (O₀ c)
        ∗ buf c cc0_scratch0 f₀ ∗ buf c cc0_scratch1 f₁ ∗ buf c cc0_stg0_0 (xstg m ρ c) ∗ buf c cc0_stg1_0 fo)
      ⊢ iprop(((zeros c ∗ owing c 0 ∗ buf c cc0_scratch0 (commAt m ρ c) ∗ buf c cc0_scratch1 (tot m ρ c) ∗ buf c cc0_stg0_0 (xstg m ρ c)
            ∗ buf c cc0_stg1_0 (outAt m ρ c)) -∗ Q ⟨⟩)
          -∗ wpc c (cc0_body xM (Memref.isWhole_whole _) oM (Memref.isWhole_whole _) commM (Memref.isWhole_whole _) totM (Memref.isWhole_whole _)
            cc0_scratch2 cc0_scratch3) Q) := by
  rw [cc0_body_eq_skeleton]; unfold cc0_body_skel
  unfold handed positions claims
  simp only [bigSep_dev]
  rw [never_sent, never_got]
  iintro ⟨#HR, #Hlev, ⟨⟨AB, ⟨S0, S1, S2, S3⟩, V0, V1, V2, V3⟩, HtB, HtC⟩, ⟨CB, C0, C1, C2⟩, HO, H0, H1, Hx, Ho⟩ Hk
  unfold wpc
  rw [wp_bind]
  iapply (part1 m ρ K c f₀) $$ [HtB AB CB HO H0 Hx]
  · isplitr; · iexact HR
    isplitr; · iexact Hlev
    isplitl [HtB]; · iexact HtB
    isplitl [AB]; · iexact AB
    isplitl [CB]; · iexact CB
    isplitl [HO]; · iexact HO
    isplitl [H0] <;> iassumption
  iintro ⟨HT, ⟨K0, K1, K2⟩, AB, HO, Hx⟩
  dsimp only
  rw [wp_bind]
  iapply (part2 m ρ K c (k0_pay3 (xstg m ρ c)) (k0_pay4 (xstg m ρ c)) rfl f₁) $$ [HT HtC K0 K1 C0 C1 V0 V1 HO H1]
  · isplitr; · iexact HR
    isplitl [HT]; · iexact HT
    isplitl [HtC]; · iexact HtC
    isplitl [K0 K1]
    · isplitl [K0] <;> iassumption
    isplitl [C0 C1]
    · isplitl [C0] <;> iassumption
    isplitl [V0 V1]
    · isplitl [V0] <;> iassumption
    isplitl [HO] <;> iassumption
  iintro ⟨HI, ⟨B0, B1⟩, ⟨V0, V1⟩, HO⟩
  simp only [Prog.lift, Prog.bind_op, Prog.bind_ret, Prog.pure_eq_ret]
  iapply (got_step m ρ K c 2 2 rfl rfl _ (above_2 c) _ rfl _) $$ [C2 K2 V2 HO]
  · isplitr; · iexact HR
    isplitl [C2]; · iexact C2
    isplitl [K2]; · iexact K2
    isplitl [V2] <;> iassumption
  iintro ⟨B2, V2, HO⟩
  ihave HC := (Entails.of_eq (slots_eq c (commAt m ρ c)).symm) $$ [B0 B1 B2]
  · isplitl [B0]; · iexact B0
    isplitl [B1] <;> iassumption
  iapply (wp_load 𝒱₀ (c : Thread nD τ) none Set.univ (m := commM) (Finset.subset_univ _)) $$ HC; iintro HC
  iapply (wp_load 𝒱₀ (c : Thread nD τ) none Set.univ (m := commM) (Finset.subset_univ _)) $$ HC; iintro HC
  iapply (wp_load 𝒱₀ (c : Thread nD τ) none Set.univ (m := commM) (Finset.subset_univ _)) $$ HC; iintro HC
  iapply (wp_load 𝒱₀ (c : Thread nD τ) none Set.univ (m := oM) (Finset.subset_univ _)) $$ Ho; iintro Ho
  iapply (wp_store 𝒱₀ (c : Thread nD τ) none Set.univ (m := oM) (r := wholeR) (Mk := Finset.univ) (Finset.subset_univ _)) $$ Ho; iintro Ho
  rw [write_out]
  ihave HL : leaving m ρ c 0 $$ [HI S1 S2 S3 HO]
  · unfold leaving away
    rw [if_neg (Nat.not_lt_zero _)]
    isplitl [HI]; · iexact HI
    isplitl [S1 S2 S3]
    · isplitl [S1]; · iexact S1
      isplitl [S2] <;> iassumption
    iexact HO
  iapply (waits_0 m ρ K c _ (equal_0 c) _) $$ [HL]
  · isplitr <;> iassumption
  iintro HL
  iapply (waits_1 m ρ K c _ (equal_1 c) _) $$ [HL]
  · isplitr <;> iassumption
  iintro HL
  iapply (waits_2 m ρ K c _ (equal_2 c) _) $$ [HL]
  · isplitr <;> iassumption
  iintro HL
  ihave HL' := (waits_done m ρ c) $$ HL
  unfold home
  icases HL' with ⟨HT, ⟨S1, S2, S3⟩, HO⟩
  ihave Ht := (shares_eq m ρ c).2 $$ HT
  imod (closing m ρ K c) $$ [AB S0 S1 S2 S3 V0 V1 V2 V3] with Hz
  · isplitr; · iexact HR
    unfold finished
    simp only [bigSep_dev]
    isplitl [AB]; · iexact AB
    isplitl [S0 S1 S2 S3]
    · isplitl [S0]; · iexact S0
      isplitl [S1]; · iexact S1
      isplitl [S2] <;> iassumption
    isplitl [V0]; · iexact V0
    isplitl [V1]; · iexact V1
    isplitl [V2] <;> iassumption
  rw [wp_ret]; imodintro
  iapply Hk
  isplitl [Hz]; · iexact Hz
  isplitl [HO]; · iexact HO
  isplitl [HC]; · iexact HC
  isplitl [Ht]; · iexact Ht
  isplitl [Hx]; · iexact Hx
  iexact Ho

end Cert.Prefix

end
-- ==== Proof.Launch.lean ====
/-
The launch: the kernel's body run on the four devices at once, from any memory with zero counters, to the result array of each device and
every counter at zero again.
-/
module

public import proofs.«01_k».proof.Proof.Whole
public import Idealize.ShloMosaic.Lib.Pipeline.CollectiveSegs

@[expose] public section

noncomputable section

namespace Cert.Prefix

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from, besides its buffers. -/
def start (c : Dev nD) : sProp 𝕄 := iprop((∃ K, records m ρ K ∗ handed c) ∗ claims c ∗ levAts L lv)
/-- Before the body: that, and the two scratch buffers at any contents. -/
def Φ₀ (c : Dev nD) : sProp 𝕄 := iprop(start m ρ c ∗ (∃ f, buf c cc0_scratch0 f) ∗ ∃ f, buf c cc0_scratch1 f)
/-- After it: the scratch buffers and every counter at zero. -/
def Φ₁ (c : Dev nD) : sProp 𝕄 := iprop(zeros c ∗ buf c cc0_scratch0 (commAt m ρ c) ∗ buf c cc0_scratch1 (tot m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- Staging buffer `b` of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 4000 in
/-- The pipeline's obligation on the body, met by `body`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body xM (Memref.isWhole_whole _) oM (Memref.isWhole_whole _) commM (Memref.isWhole_whole _) totM (Memref.isWhole_whole _)
      cc0_scratch2 cc0_scratch3) (fun _ => bodyPost m ρ c)
  unfold bodyPre Φ₀ start
  iintro ⟨⟨⟨⟨%K, #HR, Hh⟩, Hc, #Hlev⟩, ⟨%f₀, H0⟩, ⟨%f₁, H1⟩⟩, Hw, ⟨%d0, %g0, %hg0, Hx⟩, ⟨%d1, %g1, %hg1, Ho⟩⟩
  have hx : g0 = xstg m ρ c := by rw [hg0]; unfold Dat.before; rw [if_pos (fetch_0 t₀)]; rfl
  subst hx
  unfold Dat.owesAt Pipeline.owesWithin
  icases Hw with ⟨%W, %hW, HO⟩
  rw [show (dats m ρ 0 c).owed t₀.castSucc = O₀ c from rfl]
  iapply (body m ρ K c f₀ f₁ g1) $$ [Hh Hc HO H0 H1 Hx Ho]
  · isplitr; · iexact HR
    isplitr; · iexact Hlev
    isplitl [Hh]; · iexact Hh
    isplitl [Hc]; · iexact Hc
    isplitl [HO]; · unfold owing; iexists W; iexact HO
    isplitl [H0]; · iexact H0
    isplitl [H1]; · iexact H1
    isplitl [Hx]; · iexact Hx
    iexact Ho
  iintro ⟨Hz, HO, H0, H1, Hx, Ho⟩
  unfold bodyPost Φ₁ owing Dat.owesAt Pipeline.owesWithin
  rw [show (dats m ρ 0 c).owed t₀.succ = 0 from rfl]
  icases HO with ⟨%W', HO⟩
  isplitl [Hz H0 H1]
  · isplitl [Hz]; · iexact Hz
    isplitl [H0]; · iexact H0
    iexact H1
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

/-! ## The launch's resources -/

/-- The kernel's own eight semaphores. -/
def osem (k : Fin 8) : SemLoc sig := .dma ⟨k.val + 2, by revert k; decide⟩

theorem ownSemFacts : Pipeline.OwnSemFacts cfg0.spec osem := by decide
theorem share_eq (c : Dev nD) (w : Fin cfg0.W) : (dats m ρ 0 c).share w = fullShare := by unfold Dat.share; split <;> rfl

theorem csem_inj : ∀ k k' : Fin 9, csem k = csem k' → k = k' := by decide
theorem kcell_injective : Function.Injective (kcell : Dev nD × Fin 9 → GSem nD τ sig) := fun a b h =>
  Prod.ext (congrArg (fun g : GSem nD τ sig => g.1.1) h) (csem_inj _ _ (congrArg Prod.snd h))
def handCells : Finset (GSem nD τ sig) := Finset.univ.map ⟨kcell, kcell_injective⟩

/-- The semaphore that payer `c`'s payment of kind `j` towards `d` goes into: `d`'s barrier, `d`'s semaphore for copies from `c`, `c`'s own
    semaphore for its copy to `d`. -/
def payCell (c d : Dev nD) : Fin 3 → GSem nD τ sig
  | 0 => barCell d
  | 1 => recvCell d c
  | 2 => sendCell c d
def tokOf (x : Dev nD × Dev nD × Fin 3) : GSem nD τ sig × ℕ × Dev nD := (payCell x.1 x.2.1 x.2.2, 0, x.1)
theorem payCell_inj (c : Dev nD) : ∀ (d d' : Dev nD) (j j' : Fin 3), payCell c d j = payCell c d' j' → (d, j) = (d', j') := by
  revert c; decide
theorem tokOf_injective : Function.Injective tokOf := by
  rintro ⟨c, d, j⟩ ⟨c', d', j'⟩ h
  have hc : c = c' := congrArg (fun y : GSem nD τ sig × ℕ × Dev nD => y.2.2) h
  subst hc
  exact congrArg (Prod.mk c) (payCell_inj c d d' j j' (congrArg (fun y : GSem nD τ sig × ℕ × Dev nD => y.1) h))
def handToks : Finset (GSem nD τ sig × ℕ × Dev nD) := Finset.univ.map ⟨tokOf, tokOf_injective⟩

def u₀ : UU :=
  (initOf (Pipeline.cells cfgs cellOf_inj) (Pipeline.launchToks cfgs cellOf_inj), initOf handCells handToks)

/-- The tokens of the payments device `c` may make. -/
def toks (c : Dev nD) : sProp 𝕄 := bigSep Finset.univ fun dj : Dev nD × Fin 3 => dutyTok ER (payCell c dj.1 dj.2) 0 c

/-- A conjunction over three, one by one. -/
theorem bigSep_three (Φ : Fin 3 → sProp 𝕄) : bigSep Finset.univ Φ = iprop(Φ 0 ∗ Φ 1 ∗ Φ 2) :=
  bigSep_univ_eq_bigSepL [0, 1, 2] (by decide) (by decide) Φ

theorem toks_split (c : Dev nD) : (toks c : sProp 𝕄) ⊢ iprop(barToks c ∗ copyToks c) := by
  unfold toks barToks copyToks
  rw [bigSep_univ_prod, bigSep_dev, bigSep_three, bigSep_three, bigSep_three, bigSep_three]
  iintro ⟨⟨B0, _, _⟩, ⟨B1, R1, S1⟩, ⟨B2, R2, S2⟩, ⟨B3, R3, S3⟩⟩
  isplitl [B0 B1 B2 B3]
  · isplitl [B0]; · iexact B0
    isplitl [B1]; · iexact B1
    isplitl [B2]; · iexact B2
    iexact B3
  isplitl [R1 R2 R3]
  · isplitl [R1]; · iexact R1
    isplitl [R2]; · iexact R2
    iexact R3
  isplitl [S1]; · iexact S1
  isplitl [S2]; · iexact S2
  iexact S3

/-- A device's nine cells one by one: its barrier's, its departures', its arrivals'. -/
theorem nine_eq (Φ : GSem nD τ sig → sProp 𝕄) (c : Dev nD) :
    (bigSep Finset.univ fun k : Fin 9 => Φ (kcell (c, k)))
      = iprop(Φ (barCell c) ∗ Φ (sendCell c 0) ∗ Φ (sendCell c 1) ∗ Φ (sendCell c 2) ∗ Φ (sendCell c 3)
          ∗ Φ (recvCell c 0) ∗ Φ (recvCell c 1) ∗ Φ (recvCell c 2) ∗ Φ (recvCell c 3)) :=
  (bigSep_univ_eq_bigSepL [0, 1, 2, 3, 4, 5, 6, 7, 8] (by decide) (by decide) fun k : Fin 9 => Φ (kcell (c, k))).trans rfl

/-- The same, by the three kinds. -/
theorem nine_kinds (Φ : GSem nD τ sig → sProp 𝕄) (c : Dev nD) :
    (bigSep Finset.univ fun k : Fin 9 => Φ (kcell (c, k)))
      ⊢ iprop(Φ (barCell c) ∗ (bigSep Finset.univ fun r => Φ (sendCell c r)) ∗ bigSep Finset.univ fun s => Φ (recvCell c s)) := by
  rw [nine_eq, bigSep_dev, bigSep_dev]
  iintro ⟨B, S0, S1, S2, S3, R⟩
  isplitl [B]; · iexact B
  isplitr [R]
  · isplitl [S0]; · iexact S0
    isplitl [S1]; · iexact S1
    isplitl [S2]; · iexact S2
    iexact S3
  iexact R

/-- What the launch element deals device `c`. -/
def G (c : Dev nD) : sProp 𝕄 :=
  iprop((bigSep Finset.univ fun k : Fin 9 => roundState ER (plan m ρ) (kcell (c, k)) 0)
    ∗ (bigSep Finset.univ fun k : Fin 9 => iprop(atPos ER (kcell (c, k)) 0 ∅ 0 ∗ reached ER (kcell (c, k)) 0)) ∗ toks c)
/-- What becomes of it once every device's counters have been put under their invariants. -/
def G' (c : Dev nD) : sProp 𝕄 := iprop(∃ K, records m ρ K ∗ handed c)

theorem fund : BI.own (ER (initOf handCells handToks)) ⊢ (|==> bigSep Finset.univ (G m ρ) : sProp 𝕄) := by
  have hX (Φ : GSem nD τ sig → sProp 𝕄) : bigSep handCells Φ = bigSep Finset.univ fun c : Dev nD => bigSep Finset.univ fun k : Fin 9 => Φ (kcell (c, k)) := by
    unfold handCells; rw [bigSep_map, bigSep_univ_prod]; rfl
  have hT : bigSep handToks (fun x => (dutyTok ER x.1 x.2.1 x.2.2 : sProp 𝕄)) = bigSep Finset.univ fun c : Dev nD => toks c := by
    unfold handToks; rw [bigSep_map, bigSep_univ_prod]; rfl
  iintro HX
  imod (Rounds.fund ER (plan m ρ) handCells handToks) $$ HX with ⟨Hst, Hr, Hat, Htok⟩
  imodintro
  ihave Hst' := (Entails.of_eq (hX fun g => roundState ER (plan m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6, 7] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's counters all at zero, -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 9 => semVal (kcell (c, k)) 0 : sProp 𝕄) := by
  rw [ownSems0_eq, unscopedSems0_eq, nine_eq (fun g => semVal g 0)]
  iintro ⟨H, B⟩
  isplitl [B] <;> iassumption
/-- and the way back at the end. -/
theorem zeros_sems (c : Dev nD) : (zeros c : sProp 𝕄)
    ⊢ iprop(unscopedSems0 c ∗ Pipeline.ownSems0 (Ix := Unit) (Name := ℕ) (U := UU) (Lvl := ℕ) (Val := Elt F) (τ := τ) osem c) := by
  rw [ownSems0_eq, unscopedSems0_eq]
  unfold zeros
  rw [bigSep_dev, bigSep_dev]
  iintro ⟨B, ⟨S0, S1, S2, S3⟩, R⟩
  isplitl [B]; · iexact B
  isplitl [S0]; · iexact S0
  isplitl [S1]; · iexact S1
  isplitl [S2]; · iexact S2
  isplitl [S3]; · iexact S3
  iexact R

/-- One device's counters put under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 9 => iprop(∃ κ : ℕ, cellInv ER (plan m ρ) κ (kcell (c, k))))
          ∗ (bigSep Finset.univ fun k : Fin 9 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 9 => semVal (kcell (c, k)) 0) ∗ bigSep Finset.univ fun k : Fin 9 => roundState ER (plan m ρ) (kcell (c, k)) 0)
      ⊢ (|={Set.univ}=> bigSep Finset.univ fun k : Fin 9 => iprop(∃ κ : ℕ, cellInv ER (plan m ρ) κ (kcell (c, k))) : sProp 𝕄) from by
        rw [← bigSep_sep']
        exact (bigSep_mono fun k _ => (Rounds.body_intro ER (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem handed_intro (c : Dev nD) :
    iprop((bigSep Finset.univ fun k : Fin 9 => atPos ER (kcell (c, k)) 0 ∅ 0) ∗ toks c) ⊢ (handed c : sProp 𝕄) := by
  unfold handed positions
  iintro ⟨Ha, Ht⟩
  isplitl [Ha]
  · iapply (nine_kinds (fun g => atPos ER g 0 ∅ 0) c); iexact Ha
  iapply (toks_split (F := F) c); iexact Ht

/-- Every device's invariants known to every device. -/
theorem regroup :
    (bigSep Finset.univ fun c : Dev nD => iprop((bigSep Finset.univ fun k : Fin 9 => iprop(∃ κ : ℕ, cellInv ER (plan m ρ) κ (kcell (c, k))))
          ∗ (bigSep Finset.univ fun k : Fin 9 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 9 => iprop(∃ κ : ℕ, cellInv ER (plan m ρ) κ (kcell ck))),
    bigSep_congr (s := Finset.univ) (fun (c : Dev nD) _ => bigSep_sep' Finset.univ (fun k : Fin 9 => (atPos ER (kcell (c, k)) 0 ∅ 0 : sProp 𝕄)) (fun k => reached ER (kcell (c, k)) 0)),
    bigSep_sep', ← bigSep_univ_prod (fun ck : Dev nD × Fin 9 => (reached ER (kcell ck) 0 : sProp 𝕄))]
  iintro ⟨HI, ⟨Hat, #HR⟩, Htok⟩
  ihave HK := (BI.bigSep_exists_pi Finset.univ (fun (ck : Dev nD × Fin 9) (κ : ℕ) => (cellInv ER (plan m ρ) κ (kcell ck) : sProp 𝕄))) $$ HI
  icases HK with ⟨%K, #HI⟩
  have hG : ∀ c ∈ (Finset.univ : Finset (Dev nD)), iprop(records m ρ K ∗ (bigSep Finset.univ fun k : Fin 9 => atPos ER (kcell (c, k)) 0 ∅ 0) ∗ toks c) ⊢ G' m ρ c := fun c _ => by
    unfold G'
    iintro ⟨#H, Hl⟩
    iexists K
    isplitr; · iexact H
    iapply (handed_intro (F := F) c); iexact Hl
  iapply (bigSep_with_persistent (R := records m ρ K) hG)
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit: what the devices owe one another at the start -/

theorem bar_eq_iff {a b : Dev nD} : Iff (barCell a = barCell b) (a = b) :=
  ⟨fun h => congrArg (fun g : GSem nD τ sig => g.1.1) h, fun h => h ▸ rfl⟩
theorem recv_eq_iff {a b s s' : Dev nD} : Iff (recvCell a s = recvCell b s') (a = b ∧ s = s') :=
  ⟨fun h => ⟨congrArg (fun g : GSem nD τ sig => g.1.1) h, recvS_inj.mp (SemLoc.dma.inj (congrArg Prod.snd h))⟩, fun h => by rw [h.1, h.2]⟩
theorem bar_ne_recv (a b s : Dev nD) : barCell a ≠ recvCell b s := fun h => by cases congrArg Prod.snd h

theorem oweBar_bar (d e c : Dev nD) : oweBar d e (barCell c) () = if e ≠ d ∧ c = e then 1 else 0 := by
  unfold oweBar
  by_cases h : e ≠ d
  · rw [if_pos h, tallyAt_apply]; simp only [bar_eq_iff, h, and_true, true_and, ne_eq, not_false_eq_true]
  · rw [if_neg h, if_neg fun h' => h h'.1]; rfl
theorem oweCopy_bar (d r c : Dev nD) : oweCopy d r (barCell c) () = 0 := by
  by_contra h; exact bar_ne_recv _ _ _ (oweCopy_pos h)
theorem oweBar_recv (d e c s : Dev nD) : oweBar d e (recvCell c s) () = 0 := by
  by_contra h; exact bar_ne_recv _ _ _ (oweBar_pos h).symm
theorem oweCopy_recv (d r c s : Dev nD) : oweCopy d r (recvCell c s) () = (if d.val < r.val ∧ c = r ∧ s = d then 1 else 0) * N := by
  unfold oweCopy
  by_cases h : d.val < r.val
  · rw [if_pos h, tallyAt_apply]; simp only [recv_eq_iff, h, and_true, true_and, ite_mul, one_mul, zero_mul]
  · rw [if_neg h, if_neg fun h' => h h'.1, zero_mul]; rfl

theorem count_bar : ∀ c : Dev nD, (∑ d : Dev nD, (((((0 + 0 + 0 + 0) + if 3 ≠ d ∧ c = 3 then 1 else 0) + if 2 ≠ d ∧ c = 2 then 1 else 0)
    + if 1 ≠ d ∧ c = 1 then 1 else 0) + if (0 : Dev nD) ≠ d ∧ c = 0 then 1 else 0)) = 3 := by decide
theorem count_recv : ∀ c s : Dev nD, (∑ d : Dev nD, (((0 + if d.val < (3 : Dev nD).val ∧ c = 3 ∧ s = d then 1 else 0) + if d.val < (2 : Dev nD).val ∧ c = 2 ∧ s = d then 1 else 0)
    + if d.val < (1 : Dev nD).val ∧ c = 1 ∧ s = d then 1 else 0)) = if s.val < c.val then 1 else 0 := by decide

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, ← count_bar c]
  refine Finset.sum_congr rfl fun d _ => ?_
  unfold O₀ copiesOwed
  simp only [Pi.add_apply, Finsupp.add_apply, oweBar_bar, oweCopy_bar]
  rfl

theorem launch_recv (c s : Dev nD) (h : s.val < c.val) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  have hc := count_recv c s
  rw [if_pos h] at hc
  refine Eq.trans (Finset.sum_congr rfl fun d _ => ?_) ((Finset.sum_mul _ _ N).symm.trans ((congrArg (· * N) hc).trans (one_mul N)))
  unfold O₀ copiesOwed
  simp only [Pi.add_apply, Finsupp.add_apply, oweBar_recv, oweCopy_recv, Pi.zero_apply, Finsupp.zero_apply, add_mul, zero_mul, add_zero]

theorem dma_at (c s : Dev nD) (S : Finset (SemLoc sig)) (h : SemLoc.dma (recvS s) ∈ S) :
    bigSep S (fun sm => cred (tallyOn ((c : Thread nD τ), sm) (launchCredit (Pipeline.owing O₀) 0 ((c : Thread nD τ), sm))))
      ⊢ (iprop(incoming c s ∗ bigSep (S.erase (SemLoc.dma (recvS s))) fun sm => cred (tallyOn ((c : Thread nD τ), sm) (launchCredit (Pipeline.owing O₀) 0 ((c : Thread nD τ), sm)))) : sProp 𝕄) := by
  rw [show ∀ Φ : SemLoc sig → sProp 𝕄, bigSep S Φ = iprop(Φ (SemLoc.dma (recvS s)) ∗ bigSep (S.erase (SemLoc.dma (recvS s))) Φ) from fun Φ => bigSep_erase h]
  unfold incoming
  by_cases hc : s.val < c.val
  · rw [if_pos hc, ← launch_recv c s hc]
  · rw [if_neg hc]
    iintro ⟨-, H⟩
    isplitr; · iempintro
    iexact H

theorem creds (c : Dev nD) : (Pipeline.launchCred O₀ c : sProp 𝕄) ⊢ claims c := by
  unfold Pipeline.launchCred claims
  rw [bigSep_univ_at _ (SemLoc.reg barS), launch_bar]
  refine sep_mono_right ?_
  refine (dma_at c 0 _ (by decide)).trans (sep_mono_right ?_)
  refine (dma_at c 1 _ (by decide)).trans (sep_mono_right ?_)
  refine (dma_at c 2 _ (by decide)).trans ?_
  iintro ⟨H, -⟩
  iexact H

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, H0⟩, ⟨%g, H1⟩⟩
  isplitl [Hs]; · iexact Hs
  isplitl [H0]
  · iexists f
    iexact H0
  · iexists g
    iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  iintro ⟨Hz, H0, H1⟩
  ihave Hz := (zeros_sems (F := F) c) $$ Hz
  icases Hz with ⟨HU, HO⟩
  isplitl [HU]; · iexact HU
  isplitl [HO]; · iexact HO
  isplitl [H0]
  · iexists _; iexact H0
  · iexists _; iexact H1

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What array `w` of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every fair run of the program on the four devices terminates, each array at the
    contents named and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array is left as it was. -/
theorem finalA_x (c : Dev nD) : finalA m ρ c (0 : Fin 2) = m (c.tc.loc main_arg0) :=
  (dats (F := F) m ρ 0 c).arrAt_in (0 : Fin 2) rfl _

end Cert.Prefix

end
-- ==== Proof.Maths.lean ====
/-
Products of numbers that are at least zero by way of sums of logarithms, over the extended reals: no finiteness is asked, and the logarithm
of zero is minus infinity.
-/
module

public import Idealize.ShloMosaic.PureOps.Ideal
public import Mathlib.Algebra.BigOperators.Fin
public import Mathlib.Algebra.BigOperators.Intervals

@[expose] public section

noncomputable section

namespace Cert.Prefix.Maths

open Idealize.ShloMosaic

/-- The exponential of a sum is the product of the exponentials, minus infinity counting first in a sum and zero in a product. -/
theorem exp_add (a b : EReal) : Ideal.exp (a + b) = Ideal.exp a * Ideal.exp b := by
  induction a with
  | bot => rw [EReal.bot_add]; exact (zero_mul _).symm
  | top =>
    induction b with
    | bot => rw [EReal.add_bot]; exact (mul_zero _).symm
    | top => rw [EReal.top_add_top]; exact EReal.top_mul_top.symm
    | coe r => rw [EReal.top_add_coe]; exact (EReal.top_mul_coe_of_pos (Real.exp_pos r)).symm
  | coe s =>
    induction b with
    | bot => rw [EReal.add_bot]; exact (mul_zero _).symm
    | top => rw [EReal.coe_add_top]; exact (EReal.coe_mul_top_of_pos (Real.exp_pos s)).symm
    | coe r =>
      rw [← EReal.coe_add]
      show ((Real.exp (s + r) : ℝ) : EReal) = ((Real.exp s : ℝ) : EReal) * ((Real.exp r : ℝ) : EReal)
      rw [Real.exp_add, EReal.coe_mul]

theorem exp_zero : Ideal.exp 0 = 1 := by
  show ((Real.exp 0 : ℝ) : EReal) = 1
  rw [Real.exp_zero]; rfl

/-- The same for a sum of any finite number of terms. -/
theorem exp_sum {ι : Type} (s : Finset ι) (f : ι → EReal) : Ideal.exp (∑ i ∈ s, f i) = ∏ i ∈ s, Ideal.exp (f i) := by
  classical
  induction s using Finset.induction_on with
  | empty => rw [Finset.sum_empty, Finset.prod_empty, exp_zero]
  | insert a s ha ih => rw [Finset.sum_insert ha, Finset.prod_insert ha, exp_add, ih]

/-- The exponential undoes the logarithm of a number at least zero. -/
theorem exp_log (x : EReal) (hx : 0 ≤ x) : Ideal.exp (Ideal.log x) = x := by
  induction x with
  | bot => exact absurd hx (by decide)
  | top => rfl
  | coe r =>
    have hr : 0 ≤ r := EReal.coe_nonneg.mp hx
    show Ideal.exp (if r ≤ 0 then ⊥ else ((Real.log r : ℝ) : EReal)) = (r : EReal)
    split
    · next h => rw [le_antisymm h hr]; rfl
    · next h =>
      show ((Real.exp (Real.log r) : ℝ) : EReal) = (r : EReal)
      rw [Real.exp_log (not_le.mp h)]

/-- A product over the first `c` blocks of `n` numbers and `k` numbers more, block by block. -/
theorem prod_blocks (f : ℕ → EReal) (n c k : ℕ) :
    ∏ r ∈ Finset.range (n * c + k), f r = (∏ s ∈ Finset.range c, ∏ r ∈ Finset.range n, f (n * s + r)) * ∏ r ∈ Finset.range k, f (n * c + r) := by
  rw [Finset.prod_range_add]
  refine congrArg (· * _) ?_
  induction c with
  | zero => rw [Nat.mul_zero, Finset.prod_range_zero, Finset.prod_range_zero]
  | succ c ih => rw [Nat.mul_succ, Finset.prod_range_add, ih, Finset.prod_range_succ]

/-- Of four blocks, those before the `c`-th are found by three questions. -/
theorem prod_before (P : ℕ → EReal) (c : ℕ) (hc : c < 4) :
    ∏ s ∈ Finset.range c, P s = (if 0 < c then P 0 else 1) * (if 1 < c then P 1 else 1) * (if 2 < c then P 2 else 1) := by
  interval_cases c <;> simp [Finset.prod_range_succ]

/-- A product over all rows that takes only the rows up to the `i`-th is the product over those. -/
theorem prod_upto {n : ℕ} (f : ℕ → EReal) (i : ℕ) (hi : i < n) :
    ∏ k : Fin n, (if k.val ≤ i then f k.val else 1) = ∏ k ∈ Finset.range (i + 1), f k := by
  rw [Fin.prod_univ_eq_prod_range (fun k => if k ≤ i then f k else 1) n, ← Finset.prod_filter]
  refine Finset.prod_congr (Finset.ext fun k => ?_) fun _ _ => rfl
  simp only [Finset.mem_filter, Finset.mem_range]
  omega

end Cert.Prefix.Maths

end
-- ==== Proof.Local.lean ====
/-
What one device computes, over the extended reals, element by element: the logarithms, their total per column by repeated halving, the
triangular product that sums the rows up to a given one, and the result as a product.
-/
module

public import proofs.«01_k».proof.Proof.Launch
public import proofs.«01_k».proof.Proof.Maths
public import Idealize.ShloMosaic.Lib.ValueLayout
public import Idealize.ShloMosaic.Lib.MatmulPlain
public import Idealize.ShloMosaic.Lib.Pipeline.Value
public import Idealize.ShloMosaic.Lib.WordCmp
public import Idealize.ShloMosaic.Lib.IdealHost

@[expose] public section

noncomputable section

namespace Cert.Prefix.Local

open Cert.KernelIdeal Cert.KernelIdeal.Gen Cert.Prefix
open Idealize.ShloMosaic Idealize.ShloMosaic.TcCoe Idealize.ShloMosaic.ValueIdx Idealize.ShloMosaic.WordCmp
open Idealize.ShloMosaic.Pipeline (Dat)

/-! ## Payloads at an index -/

/-- The logarithms of a block. -/
theorem logs_apply (v : Vec Ideal S512x512 .f32) (k j : Fin 512) : k0_pay3 v (ix2 k j) = Ideal.log (v (ix2 k j)) := by
  unfold k0_pay3
  rw [shapeCast_self]
  rfl

/-- Adding the lower half of the rows to the upper half keeps each column's sum. -/
theorem halve {n h : ℕ} (e : n = h + h) (v : FVec Ideal ⟨2, ![n, 512]⟩ .f32)
    (h0 : (⟨2, ![n, 512]⟩ : Shape).Slices ![0, 0] ⟨2, ![h, 512]⟩) (h1 : (⟨2, ![n, 512]⟩ : Shape).Slices ![h, 0] ⟨2, ![h, 512]⟩) (j : Fin 512) :
    ∑ r : Fin h, addf (extractStridedSlice ⟨2, ![h, 512]⟩ ![0, 0] v h0) (extractStridedSlice ⟨2, ![h, 512]⟩ ![h, 0] v h1) (ix2 r j)
      = ∑ r : Fin n, v (ix2 r j) := by
  subst e
  rw [Fin.sum_univ_add, ← Finset.sum_add_distrib]
  refine Finset.sum_congr rfl fun r _ => ?_
  show extractStridedSlice ⟨2, ![h, 512]⟩ ![0, 0] v h0 (ix2 r j) + extractStridedSlice ⟨2, ![h, 512]⟩ ![h, 0] v h1 (ix2 r j) = _
  rw [slice2_axis0_apply 0 v h0 r j (Fin.castAdd h r) (Nat.zero_add _).symm, slice2_axis0_apply h v h1 r j (Fin.natAdd h r) rfl]

/-- The total of a block's logarithms, column by column. -/
theorem total_apply (v : Vec Ideal S512x512 .f32) (a : Fin 1) (j : Fin 512) :
    k0_pay5 (k0_pay4 v) (ix2 a j) = ∑ k : Fin 512, Ideal.log (v (ix2 k j)) := by
  have ha : a = 0 := Subsingleton.elim _ _
  subst ha
  unfold k0_pay5
  rw [shapeCast_self, ← Fin.sum_univ_one (fun r : Fin 1 => addf _ _ (ix2 r j))]
  unfold k0_pay4
  simp only [halve (n := 2) (h := 1) rfl, halve (n := 4) (h := 2) rfl, halve (n := 8) (h := 4) rfl, halve (n := 16) (h := 8) rfl,
    halve (n := 32) (h := 16) rfl, halve (n := 64) (h := 32) rfl, halve (n := 128) (h := 64) rfl, halve (n := 256) (h := 128) rfl,
    halve (n := 512) (h := 256) rfl, logs_apply]

/-- The triangular matrix's entries: one on and under the diagonal, zero above it. -/
theorem triangle (i k : Fin 512) :
    ((((IntOp.cmpi .sge (BitVec.ofNat 32 i.val) (BitVec.ofNat 32 k.val)).setWidth 32).toInt : ℝ) : EReal) = if k.val ≤ i.val then 1 else 0 := by
  have hi := i.isLt
  have hk := k.isLt
  rw [cmpi_sge_ofNat (by omega) (by omega)]
  by_cases h : k.val ≤ i.val
  · rw [if_pos h, decide_eq_true h, show ((BitVec.ofBool true).setWidth 32).toInt = 1 from by decide, Int.cast_one]; rfl
  · rw [if_neg h, decide_eq_false h, show ((BitVec.ofBool false).setWidth 32).toInt = 0 from by decide, Int.cast_zero]; rfl

/-- The triangular product: the sum of the rows up to the `i`-th. -/
theorem upto_apply (v : FVec Ideal S512x512 .f32) (i j : Fin 512) :
    k0_pay6 v (ix2 i j) = ∑ k : Fin 512, (if k.val ≤ i.val then 1 else 0) * v (ix2 k j) := by
  unfold k0_pay6
  refine (Ideal.matmul_plain_apply none _ _ _ i j).trans ?_
  refine Eq.trans (congrArg (· + _) Ideal.ofBits_zero_f32) ((zero_add _).trans (Finset.sum_congr rfl fun k _ => ?_))
  refine congrArg (· * v (ix2 k j)) (Eq.trans ?_ (triangle i k))
  show (((((IntOp.cmpi .sge (iota .tc S512x512 32 [0] iota_S512x512_d0_w32 (ix2 i k)) (iota .tc S512x512 32 [1] iota_S512x512_d1_w32 (ix2 i k))).setWidth 32).toInt : ℝ) : EReal)) = _
  rw [iota_single_apply, iota_single_apply]

/-- One landing slot's row added to the others' and to every row of the block; then the exponential. -/
theorem last_apply (v : FVec Ideal S512x512 .f32) (a b d : Vec Ideal S1x1x512 .f32) (i j : Fin 512) :
    k0_pay1 v a b d (ix2 i j)
      = Ideal.exp (v (ix2 i j) + ((a (ix3 (0 : Fin 1) (0 : Fin 1) j) + b (ix3 (0 : Fin 1) (0 : Fin 1) j)) + d (ix3 (0 : Fin 1) (0 : Fin 1) j))) := by
  have hs (x : Vec Ideal S1x1x512 .f32) : shapeCast S1x512 x shapeCasts_S1x1x512_S1x512 (ix2 (0 : Fin 1) j) = x (ix3 (0 : Fin 1) (0 : Fin 1) j) :=
    shapeCast_apply x _ _ _ (by rw [Shape.rowMajor_val_three, Shape.rowMajor_val_two]; rfl)
  unfold k0_pay1
  refine congrArg Ideal.exp (congrArg (v (ix2 i j) + ·) ?_)
  refine (broadcastTo_1b_ab_apply _ _ i j).trans ?_
  exact congrArg₂ (· + ·) (congrArg₂ (· + ·) (hs a) (hs b)) (hs d)

variable (m : (ℓ : Loc nD τ sig) → Buf (Elt Ideal) ℓ) (ρ : Dev nD → PrngReg)

/-- Device `c`'s block of the argument. -/
abbrev X (c : Dev nD) : Vec Ideal S512x512 .f32 := m (c.tc.loc main_arg0)

theorem staged (c : Dev nD) : xstg m ρ c = X m c :=
  funext fun y => congrArg (X m c) (show (win0_0.blk (0 : Fin 1)).view.emb y = y from funext fun a => Fin.ext (by
    show 0 * (![512, 512] : Fin 2 → ℕ) a + 1 * (y a).val = (y a).val
    omega))

/-- What a device reads of slot `s`: the total of device `s` if that is before it, and zero otherwise. -/
theorem slot_apply (c : Dev nD) (s : Fin 3) (j : Fin 512) :
    slotRead m ρ c s (ix3 (0 : Fin 1) (0 : Fin 1) j)
      = if s.val < c.val then ∑ k : Fin 512, Ideal.log (X m ⟨s.val, lt_trans s.isLt (by decide)⟩ (ix2 k j)) else 0 := by
  have h : slotRead m ρ c s (ix3 (0 : Fin 1) (0 : Fin 1) j) = commAt m ρ c (ix3 s (0 : Fin 1) j : S3x1x512.Idx) :=
    congrArg (commAt m ρ c) (show (slotR s).emb (ix3 (0 : Fin 1) (0 : Fin 1) j) = (ix3 s (0 : Fin 1) j : S3x1x512.Idx) from funext fun k => Fin.ext (by
      fin_cases k
      · show s.val + 1 * 0 = s.val; omega
      · rfl
      · show 0 + 1 * j.val = j.val; omega))
  rw [h]
  by_cases hc : s.val < c.val
  · rw [if_pos hc, commAt_before m ρ c ⟨s.val, lt_trans s.isLt (by decide)⟩ s rfl hc]
    unfold tot
    rw [total_apply, staged]
  · rw [if_neg hc, commAt_after m ρ c s hc]
    unfold k0_pay2
    rw [shapeCast_self]
    exact Ideal.ofBits_zero_f32

/-- The product of one column of a device's block. -/
def col (c : Dev nD) (j : Fin 512) : EReal := ∏ k : Fin 512, X m c (ix2 k j)

/-- The device's result at a place: the product of its own rows up to there, and of the whole columns of the devices before it. -/
theorem result_apply (hx : ∀ c k j, 0 ≤ X m c (ix2 k j)) (c : Dev nD) (i j : Fin 512) :
    outAt m ρ c (ix2 i j) = (∏ k : Fin 512, if k.val ≤ i.val then X m c (ix2 k j) else 1)
      * (((if 0 < c.val then col m 0 j else 1) * (if 1 < c.val then col m 1 j else 1)) * (if 2 < c.val then col m 2 j else 1)) := by
  have hslot (s : Fin 3) : Ideal.exp (slotRead m ρ c s (ix3 (0 : Fin 1) (0 : Fin 1) j))
      = if s.val < c.val then col m ⟨s.val, lt_trans s.isLt (by decide)⟩ j else 1 := by
    rw [slot_apply]
    split
    · rw [Maths.exp_sum]
      exact Finset.prod_congr rfl fun k _ => Maths.exp_log _ (hx _ _ _)
    · exact Maths.exp_zero
  unfold outAt
  rw [last_apply, Maths.exp_add, Maths.exp_add, Maths.exp_add, hslot 0, hslot 1, hslot 2, upto_apply, Maths.exp_sum]
  refine congrArg (· * _) (Finset.prod_congr rfl fun k _ => ?_)
  rw [logs_apply, staged]
  split
  · rw [one_mul, Maths.exp_log _ (hx _ _ _)]
  · rw [zero_mul, Maths.exp_zero]

/-- What the result array holds after the run. -/
theorem finalA_out (c : Dev nD) : finalA m ρ c (1 : Fin 2) = outAt m ρ c := by
  have hemb (t : Fin cfg0.N) (y : S512x512.Idx) : (win0_1.blk t).view.emb y = y := funext fun a => Fin.ext (by
    show 0 * (![512, 512] : Fin 2 → ℕ) a + 1 * (y a).val = (y a).val
    omega)
  refine (dats (F := Ideal) m ρ 0 c).arrAt_eq_of_cover (1 : Fin 2) (outAt m ρ c) (fun t _ => ?_) fun i => ⟨t₀, rfl, ?_⟩
  · exact funext fun y => congrArg (outAt m ρ c) (hemb t y).symm
  · exact Finset.mem_map.mpr ⟨i, Finset.mem_univ _, hemb t₀ i⟩

end Cert.Prefix.Local

end
-- ==== Proof.Reference.lean ====
/-
The reference: its loop multiplies one row into the running product and stores that product, row after row. After `n` trips the counter is
`n`, the running product is the product of the first `n` rows, and the rows stored are the running products; so at the end row `r` of the
result is the product of rows `0` to `r`. Its frame follows from the run.
-/
module

public import proofs.«01_k».proof.Defs
public import proofs.«01_k».proof.Proof.Gen.ReferenceIdeal.Run
public import Idealize.ShloMosaic.Lib.ValueLayout
public import Idealize.ShloMosaic.Lib.Pipeline.Value
public import Idealize.ShloMosaic.Lib.WordCmp
public import Idealize.ShloMosaic.Lib.IdealHost
public import Idealize.ShloMosaic.Lib.Quiescent

@[expose] public section

noncomputable section

namespace Cert.Prefix.Reference

open Cert.ReferenceIdeal Cert.ReferenceIdeal.Gen Cert.ReferenceIdeal.Value
open Idealize.ShloMosaic Idealize.ShloMosaic.TcCoe Idealize.ShloMosaic.ValueIdx Idealize.ShloMosaic.WordCmp Idealize.ShloMosaic.StableHlo
open Idealize.SL.Sem

/-! ## Reading and writing one row -/

/-- One row fits at any row number of the array. -/
theorem fits (n : ℕ) (hn : n < 2048) : S2048x512.Slices ![n, 0] S1x512 :=
  ⟨rfl, fun a => by
    fin_cases a
    · show n + 1 ≤ 2048; omega
    · show 0 + 512 ≤ 512; omega⟩

/-- A dynamic slice of one row at row `n` reads row `n`. -/
theorem read_row {α : Type} (x : S2048x512.Idx → α) (start : Fin 2 → Int) (n : Fin 2048) (h0 : start 0 = n.val) (h1 : start 1 = 0)
    (h : S2048x512.Slices (fun _ => 0) S1x512) (j : Fin 512) : Host.dynamicSlice S1x512 x start h (ix2 (0 : Fin 1) j) = x (ix2 n j) := by
  rw [dynamicSlice_eq_extract S1x512 x start h ![n.val, 0] (fits n.val n.isLt) (fun a => by
    fin_cases a
    · exact h0
    · exact h1)]
  exact slice2_axis0_apply n.val x _ (0 : Fin 1) j n rfl

/-- A dynamic update of one row at row `n` changes row `n` and nothing else. -/
theorem write_row {α : Type} (x : S2048x512.Idx → α) (u : S1x512.Idx → α) (start : Fin 2 → Int) (n : Fin 2048) (h0 : start 0 = n.val) (h1 : start 1 = 0)
    (h : S2048x512.Slices (fun _ => 0) S1x512) (r : Fin 2048) (j : Fin 512) :
    Host.dynamicUpdateSlice x u start h (ix2 r j) = if r = n then u (ix2 (0 : Fin 1) j) else x (ix2 r j) := by
  rw [dynamicUpdateSlice_eq_update x u start h ![n.val, 0] (fits n.val n.isLt) (fun a => by
    fin_cases a
    · exact h0
    · exact h1)]
  unfold updateSlice
  have hj := j.isLt
  by_cases e : r = n
  · subst e
    rw [if_pos rfl, dif_pos (fun a => by
      fin_cases a
      · show r.val ≤ r.val ∧ r.val < r.val + 1; omega
      · show 0 ≤ j.val ∧ j.val < 0 + 512; omega)]
    refine congrArg u (funext fun a => Fin.ext ?_)
    fin_cases a
    · show r.val - r.val = 0; omega
    · show j.val - 0 = j.val; omega
  · rw [if_neg e, dif_neg (fun hin => e (Fin.ext ?_))]
    have h2 : n.val ≤ r.val ∧ r.val < n.val + 1 := hin 0
    omega

/-! ## The loop -/

/-- Row `k` of column `j`, as a sequence: one from the last row on. -/
def seq (x : FVec Ideal S2048x512 .f32) (j : Fin 512) (k : ℕ) : EReal := if h : k < 2048 then x (ix2 (⟨k, h⟩ : Fin 2048) j) else 1

/-- What the loop's buffers hold after `n` trips. -/
structure After (x : FVec Ideal S2048x512 .f32) (n : ℕ) (V : Valuation τ sig (Elt Ideal)) : Prop where
  arg : V (Proc.devRef .tc main_v2_0) = x
  counter : V (Proc.devRef .tc main_v2_1) = fun _ => BitVec.ofNat 32 n
  running : ∀ j : Fin 512, (V (Proc.devRef .tc main_v2_2) : FVec Ideal S512 .f32) (ix1 j) = ∏ k ∈ Finset.range n, seq x j k
  stored : ∀ (r : Fin 2048) (j : Fin 512), r.val < n →
    (V (Proc.devRef .tc main_v2_3) : FVec Ideal S2048x512 .f32) (ix2 r j) = ∏ k ∈ Finset.range (r.val + 1), seq x j k

/-- Before the first trip. -/
theorem entry (m : (ℓ : Loc nD τ sig) → Buf (Elt Ideal) ℓ) (c : Dev nD) :
    After (m ((c.tc : Thread nD τ).loc main_arg0)) 0 (entryContents preI m c) := by
  refine ⟨?_, ctr_entry m c, fun j => ?_, fun r j h => absurd h (Nat.not_lt_zero _)⟩
  · simp only [entryContents, afterL_cons, afterL_nil]
    after_reads_simp
    rfl
  · have e : entryContents preI m c (Proc.devRef .tc main_v2_2) = broadcastInDim S512 ![] bcast_S_S512 (constant (F := Ideal) S_ .f32 0x3F800000#32) := by
      simp only [entryContents, afterL_cons, afterL_nil]
      after_reads_simp
      rfl
    rw [e, Finset.prod_range_zero]
    exact (broadcastInDim_scalar_apply _ _ _).trans Ideal.ofBits_one_f32

/-- The running product after one more row. -/
theorem next_row {x : FVec Ideal S2048x512 .f32} {n : ℕ} {V : Valuation τ sig (Elt Ideal)} (hV : After x n V) (hn : n < 2048) (j : Fin 512) :
    (res_main_while0b_v4 V : FVec Ideal S512 .f32) (ix1 j) = ∏ k ∈ Finset.range (n + 1), seq x j k := by
  rw [Finset.prod_range_succ, ← hV.running j]
  unfold res_main_while0b_v4
  refine congrArg (HMul.hMul (α := EReal) (β := EReal) (γ := EReal) (V (Proc.devRef .tc main_v2_2) (ix1 j))) ?_
  refine (shapeCast_1a_a_apply _ _ j).trans ?_
  refine (read_row _ _ ⟨n, hn⟩ ?_ rfl _ j).trans ?_
  · show BitVec.toInt ((V (Proc.devRef .tc main_v2_1) : IVec S_ 32) _) = (n : ℤ)
    rw [hV.counter]
    exact toInt_ofNat_of_lt (by omega)
  · rw [hV.arg]
    unfold seq
    rw [dif_pos hn]

/-- One trip. -/
theorem trip {x : FVec Ideal S2048x512 .f32} {n : ℕ} {V : Valuation τ sig (Elt Ideal)} (hV : After x n V) (hn : n < 2048) : After x (n + 1) (STEP V) := by
  refine ⟨(STEP_main_v2_0 V).trans hV.arg, (STEP_main_v2_1 V).trans ?_, fun j => ?_, fun r j h => ?_⟩
  · unfold step_main_v2_1
    rw [hV.counter]
    funext i
    show BitVec.ofNat 32 n + 1#32 = BitVec.ofNat 32 (n + 1)
    rw [BitVec.ofNat_add]
  · rw [STEP_main_v2_2]
    exact next_row hV hn j
  · rw [STEP_main_v2_3]
    refine (write_row (V (Proc.devRef .tc main_v2_3)) _ _ ⟨n, hn⟩ ?_ rfl updateFits_S2048x512_S1x512 r j).trans ?_
    · show BitVec.toInt ((V (Proc.devRef .tc main_v2_1) : IVec S_ 32) _) = (n : ℤ)
      rw [hV.counter]
      exact toInt_ofNat_of_lt (by omega)
    by_cases e : r = ⟨n, hn⟩
    · subst e
      rw [if_pos rfl]
      refine Eq.trans ?_ (next_row hV hn j)
      exact broadcastInDim_apply _ _ _ _ (ix1 j) (fun a => by fin_cases a; rfl)
    · rw [if_neg e]
      have hr : r.val ≠ n := fun h' => e (Fin.ext h')
      exact hV.stored r j (by omega)

/-- After any number of trips up to the last. -/
theorem trips (m : (ℓ : Loc nD τ sig) → Buf (Elt Ideal) ℓ) (c : Dev nD) :
    ∀ n, n ≤ 2048 → After (m ((c.tc : Thread nD τ).loc main_arg0)) n (STEP^[n] (entryContents preI m c))
  | 0, _ => entry m c
  | n + 1, h => by
    rw [Function.iterate_succ_apply']
    exact trip (trips m c n (by omega)) (by omega)

/-- The running products of an array, down its rows. -/
def products (x : FVec Ideal S2048x512 .f32) : FVec Ideal S2048x512 .f32 := fun i => ∏ k ∈ Finset.range ((i 0).val + 1), seq x (i 1) k

/-- The reference terminates with its result at the running products of its argument, and its argument unchanged. -/
theorem run_products (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v2_3) = products (m ((c.tc : Thread nD τ).loc main_arg0))
      ∧ r.2.mem ((c.tc : Thread nD τ).loc main_arg0) = m ((c.tc : Thread nD τ).loc main_arg0) := by
  refine (θ_run (defs (F := Ideal)) _ _).mono (fun r h c => ⟨(h c).1.trans ?_, (h c).2⟩) (Cert.ReferenceIdeal.Value.run (F := Ideal) m ρ)
  funext i
  obtain ⟨a, b, rfl⟩ : ∃ (a : Fin 2048) (b : Fin 512), i = ix2 a b := ⟨i 0, i 1, funext fun k => by fin_cases k <;> rfl⟩
  exact (trips m c 2048 le_rfl).stored a b a.isLt

/-- The reference's frame: it terminates with its argument unchanged and, declaring no semaphore, with every counter at zero. -/
theorem frame : Cert.quiescent_ReferenceIdeal := fun m ρ _ =>
  (θ_run (defs (F := Ideal)) _ _).mono (fun r h => ⟨fun c => (h c).2, sem_eq_zero_of_no_sems (by decide) r.2⟩) (run_products m ρ)

end Cert.Prefix.Reference

end
-- ==== Proof.Agree.lean ====
/-
The two programs agree: a device's result, its own running products times the totals of the devices before it, is its block of the
reference's running products. With the run of the kernel and the run of the reference this is the value claim.
-/
module

public import proofs.«01_k».proof.Proof.Local
public import proofs.«01_k».proof.Proof.Reference
public import proofs.«01_k».proof.Proof.Gen.Pre_nonnegative_KernelIdeal

@[expose] public section

noncomputable section

namespace Cert.Prefix.Agree

open Cert.KernelIdeal Cert.KernelIdeal.Gen Cert.Prefix
open Cert.Prefix.Local (X col)
open Cert.Prefix.Reference (seq products)
open Idealize.ShloMosaic Idealize.ShloMosaic.TcCoe Idealize.ShloMosaic.ValueIdx
open Idealize.SL.Sem

variable (m : (ℓ : Loc nD τ sig) → Buf (Elt Ideal) ℓ) (ρ : Dev nD → PrngReg) (x : FVec Ideal ⟨2, ![2048, 512]⟩ .f32)

/-- Row `k` of block `c` of an array is the array's row `512 c + k`. -/
theorem block_row (c : Dev nD) (k j : Fin 512) (v : FVec Ideal ⟨2, ![2048, 512]⟩ .f32) :
    (Layout.block ⟨2, ![512, 512]⟩ ⟨2, ![2048, 512]⟩ 0 4 c v) (ix2 k j)
      = v (ix2 (⟨512 * c.val + k.val, by have := k.isLt; have : c.val < 4 := c.isLt; omega⟩ : Fin 2048) j) := by
  refine congrArg v (funext fun a => Fin.ext ?_)
  fin_cases a
  · show c.val * 512 + k.val = 512 * c.val + k.val; omega
  · rfl

variable (hx : ∀ c : Dev nD, X m c = Layout.block ⟨2, ![512, 512]⟩ ⟨2, ![2048, 512]⟩ 0 4 c x)

include hx in
/-- A device's rows are the sequence's values from its first row on. -/
theorem rows (c : Dev nD) (k j : Fin 512) : X m c (ix2 k j) = seq x j (512 * c.val + k.val) := by
  have hk := k.isLt
  have hc : c.val < 4 := c.isLt
  rw [hx c]
  refine (block_row c k j x).trans ?_
  unfold seq
  rw [dif_pos (by omega)]

include hx in
/-- The product of a device's column is a product of 512 values of the sequence. -/
theorem col_eq (c : Dev nD) (j : Fin 512) : col m c j = ∏ r ∈ Finset.range 512, seq x j (512 * c.val + r) := by
  unfold col
  rw [← Fin.prod_univ_eq_prod_range (fun r => seq x j (512 * c.val + r)) 512]
  exact Finset.prod_congr rfl fun k _ => rows m x hx c k j

include hx in
/-- A device's result is its block of the running products. -/
theorem result_eq (h0 : ∀ c k j, 0 ≤ X m c (ix2 k j)) (c : Dev nD) :
    outAt m ρ c = Layout.block ⟨2, ![512, 512]⟩ ⟨2, ![2048, 512]⟩ 0 4 c (products x) := by
  funext i
  obtain ⟨a, b, rfl⟩ : ∃ (a b : Fin 512), i = (ix2 a b : S512x512.Idx) := ⟨i 0, i 1, funext fun k => by fin_cases k <;> rfl⟩
  refine (Local.result_apply m ρ h0 c a b).trans (Eq.trans ?_ (block_row c a b (products x)).symm)
  show _ = ∏ k ∈ Finset.range (512 * c.val + a.val + 1), seq x b k
  rw [Nat.add_assoc, Maths.prod_blocks, Maths.prod_before _ c.val c.isLt, mul_comm]
  refine congrArg₂ (· * ·) ?_ ?_
  · rw [col_eq m x hx, col_eq m x hx, col_eq m x hx]; rfl
  · rw [← Maths.prod_upto (fun k => seq x b (512 * c.val + k)) a.val a.isLt]
    exact Finset.prod_congr rfl fun k _ => by rw [rows m x hx]

/-- The precondition, at an element: it is not negative. -/
theorem nonneg (hpre : Cert.Pre_KernelIdeal_nonnegative_KernelIdeal m) (c : Dev nD) (k j : Fin 512) : 0 ≤ X m c (ix2 k j) := by
  have h : BitVec.ofBool (decide (Ideal.ofBits .f32 0x00000000#32 ≤ X m c (ix2 k j))) = 1#1 := congrFun (hpre c) (ix2 k j)
  rw [Ideal.ofBits_zero_f32] at h
  by_contra hn
  rw [decide_eq_false hn] at h
  exact absurd h (by decide)

/-- The kernel terminates with its argument unchanged and every counter at zero, for any float values. -/
theorem frame {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run _ _ _).mono (fun _ h => ⟨fun c => (h.1 c 0).trans (finalA_x m ρ c), h.2⟩) (run_main m ρ)

/-- The value claim. -/
theorem algebraic : Cert.algebraic_KernelIdeal_ReferenceIdeal_pre_nonnegative_KernelIdeal := by
  intro m ρ m' ρ' hpre hblk
  refine ⟨products (m' (((0 : Dev Cert.ReferenceIdeal.nD).tc : Thread Cert.ReferenceIdeal.nD Cert.ReferenceIdeal.τ).loc Cert.ReferenceIdeal.main_arg0)),
    ?_, (θ_run _ _ _).mono (fun _ h => h 0) (Reference.run_products m' ρ')⟩
  refine (θ_run _ _ _).mono (fun _ h c => ⟨(h.1 c 1).trans ?_, (h.1 c 0).trans (finalA_x m ρ c)⟩) (run_main (F := Ideal) m ρ)
  exact (Local.finalA_out m ρ c).trans (result_eq m ρ _ hblk (nonneg m hpre) c)

end Cert.Prefix.Agree

end
-- ==== Proof.Same.lean ====
/-
The kernel's frame at the bit-exact floats. The kernel as written and its ideal program are one text under two names: their body tables are
equal, so the frame proved of the ideal program's text for any float values is the kernel's too.
-/
module

public import proofs.«01_k».proof.Proof.Agree
public import proofs.«01_k».proof.Proof.Gen.Kernel

@[expose] public section

noncomputable section

namespace Cert.Prefix.Same

open Idealize.ShloMosaic

variable {F : FTy → Type} [FloatOps F]

/-- The two programs' kernel bodies are equal. -/
theorem bodies : Cert.Kernel.defs₀ (F := F) = Cert.KernelIdeal.defs₀ (F := F) :=
  congrArg (Defs.onTc (nD := Cert.Kernel.nD) (τ := Cert.Kernel.τ) (sig := Cert.Kernel.sig) (Val := Elt F) (Λ := Cert.Kernel.Λ₀))
    (funext fun ℓ => funext fun a => match ℓ, a with
      | ⟨0, _⟩, (t, s) => rfl
      | ⟨n + 1, h⟩, _ => absurd h (by omega))

/-- And so are their whole body tables. -/
theorem tables : Cert.Kernel.defs (F := F) = Cert.KernelIdeal.defs (F := F) := congrArg (Pipeline.defs (Cert.Kernel.pcfgs (F := F))) bodies

/-- The kernel as written terminates with its argument unchanged and every counter at zero. -/
theorem frame : Cert.quiescent_Kernel := fun m g _ => by
  rw [tables]
  exact Cert.Prefix.Agree.frame (F := Bits) m g

end Cert.Prefix.Same

end
-- ==== Proof.lean ====
/-
The certificate: the claims of Defs.lean, from the modules under Proof/. The kernel's frame at both instances, the reference's frame, and
the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonnegative_KernelIdeal
public import proofs.«01_k».proof.Proof.Gen.Pre_nonnegative_ReferenceIdeal
public import proofs.«01_k».proof.Proof.Gen.ReferenceIdeal.Run
public import proofs.«01_k».proof.Proof.Same
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_nonnegative_KernelIdeal.Gen.facts, Cert.Pre_nonnegative_ReferenceIdeal.Gen.facts,
  Cert.Prefix.Same.frame, fun m g _ => Cert.Prefix.Agree.frame m g, fun m g _ => Cert.Prefix.Agree.frame m g,
  Cert.Prefix.Reference.frame, fun m g _ => Cert.Prefix.Reference.frame m g trivial, trivial, Cert.Prefix.Agree.algebraic⟩

end Cert.Proof

end
